-- ==== Defs.lean ====
def Pre_Kernel [hPre_tables_valid : Cert.Pre_tables_valid.Facts] (m : (ℓ : Loc Cert.Kernel.nD Cert.Kernel.τ Cert.Kernel.sig) → Buf (Elt Bits) ℓ) : Prop :=
  ∀ c : Dev Cert.Kernel.nD,
    (Cert.Pre_tables_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_valid : Cert.Pre_tables_valid.Facts] (m : (ℓ : Loc Cert.KernelIdeal.nD Cert.KernelIdeal.τ Cert.KernelIdeal.sig) → Buf (Elt Ideal) ℓ) : Prop :=
  ∀ c : Dev Cert.KernelIdeal.nD,
    (Cert.Pre_tables_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_valid [hPre_tables_valid : Cert.Pre_tables_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def quiescent_Kernel [hKernel : Cert.Kernel.Facts] [hPre_tables_valid : Cert.Pre_tables_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_valid : Cert.Pre_tables_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_valid [hReferenceIdeal : Cert.ReferenceIdeal.Facts] [hPre_tables_valid : Cert.Pre_tables_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3)
      ∧ r.2.mem ((c.tc : Thread Cert.SharedReferenceIdeal.nD Cert.SharedReferenceIdeal.τ).loc Cert.SharedReferenceIdeal.main_arg4) = m ((c.tc : Thread Cert.SharedReferenceIdeal.nD Cert.SharedReferenceIdeal.τ).loc Cert.SharedReferenceIdeal.main_arg4)
      ∧ r.2.mem ((c.tc : Thread Cert.SharedReferenceIdeal.nD Cert.SharedReferenceIdeal.τ).loc Cert.SharedReferenceIdeal.main_arg5) = m ((c.tc : Thread Cert.SharedReferenceIdeal.nD Cert.SharedReferenceIdeal.τ).loc Cert.SharedReferenceIdeal.main_arg5))
      ∧ r.2.sem = fun _ => 0)

def preserves_Kernel_KernelIdeal : Prop :=
  True

def algebraic_KernelIdeal_ReferenceIdeal_on_tiles_computed [hKernelIdeal : Cert.KernelIdeal.Facts] [hReferenceIdeal : Cert.ReferenceIdeal.Facts] [hPre_tables_valid : Cert.Pre_tables_valid.Facts] [hOn_tiles_computed : Cert.On_tiles_computed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![212992, 1536]⟩ : Shape).Idx, (Cert.On_tiles_computed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v0_0) i = v0 c i)
          ∧ (∀ i : (⟨3, ![416, 4, 128]⟩ : Shape).Idx, (Cert.On_tiles_computed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![212992, 1536]⟩ : Shape).Idx, (Cert.On_tiles_computed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v20_0) i = v0 c i)
          ∧ (∀ i : (⟨3, ![416, 4, 128]⟩ : Shape).Idx, (Cert.On_tiles_computed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v20_1) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)
      ∧ m' ((c.tc : Thread Cert.SharedReferenceIdeal.nD Cert.SharedReferenceIdeal.τ).loc Cert.SharedReferenceIdeal.main_arg4) = m ((c.tc : Thread Cert.SharedIdeal.nD Cert.SharedIdeal.τ).loc Cert.SharedIdeal.main_arg4)
      ∧ m' ((c.tc : Thread Cert.SharedReferenceIdeal.nD Cert.SharedReferenceIdeal.τ).loc Cert.SharedReferenceIdeal.main_arg5) = m ((c.tc : Thread Cert.SharedIdeal.nD Cert.SharedIdeal.τ).loc Cert.SharedIdeal.main_arg5)) →
    ∃ (v0 : (c : Dev Cert.SharedIdeal.nD) → Buf (Elt Ideal) ((c.tc : Thread Cert.SharedIdeal.nD Cert.SharedIdeal.τ).loc Cert.SharedIdeal.main_v0_0)) (v1 : (c : Dev Cert.SharedIdeal.nD) → Buf (Elt Ideal) ((c.tc : Thread Cert.SharedIdeal.nD Cert.SharedIdeal.τ).loc Cert.SharedIdeal.main_v0_1)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v0_0) = v0 c
          ∧ r.2.mem ((c.tc : Thread Cert.SharedIdeal.nD Cert.SharedIdeal.τ).loc Cert.SharedIdeal.main_v0_1) = v1 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v1_0) = v0 c
          ∧ r.2.mem ((c.tc : Thread Cert.SharedReferenceIdeal.nD Cert.SharedReferenceIdeal.τ).loc Cert.SharedReferenceIdeal.main_v1_1) = v1 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3)
          ∧ r.2.mem ((c.tc : Thread Cert.SharedReferenceIdeal.nD Cert.SharedReferenceIdeal.τ).loc Cert.SharedReferenceIdeal.main_arg4) = m' ((c.tc : Thread Cert.SharedReferenceIdeal.nD Cert.SharedReferenceIdeal.τ).loc Cert.SharedReferenceIdeal.main_arg4)
          ∧ r.2.mem ((c.tc : Thread Cert.SharedReferenceIdeal.nD Cert.SharedReferenceIdeal.τ).loc Cert.SharedReferenceIdeal.main_arg5) = m' ((c.tc : Thread Cert.SharedReferenceIdeal.nD Cert.SharedReferenceIdeal.τ).loc Cert.SharedReferenceIdeal.main_arg5))

def Claim : Prop :=
  ∃ (hKernel : Cert.Kernel.Facts) (hKernelIdeal : Cert.KernelIdeal.Facts) (hReferenceIdeal : Cert.ReferenceIdeal.Facts) (hShared : Cert.Shared.Facts) (hSharedIdeal : Cert.SharedIdeal.Facts) (hSharedReferenceIdeal : Cert.SharedReferenceIdeal.Facts) (hPre_tables_valid : Cert.Pre_tables_valid.Facts) (hOn_tiles_computed : Cert.On_tiles_computed.Facts),
    quiescent_Kernel (hKernel := hKernel) (hPre_tables_valid := hPre_tables_valid)
    ∧ quiescent_KernelIdeal (hKernelIdeal := hKernelIdeal) (hPre_tables_valid := hPre_tables_valid)
    ∧ quiescent_ReferenceIdeal (hReferenceIdeal := hReferenceIdeal)
    ∧ quiescent_ReferenceIdeal_pre_tables_valid (hReferenceIdeal := hReferenceIdeal) (hPre_tables_valid := hPre_tables_valid)
    ∧ quiescent_Shared (hShared := hShared)
    ∧ quiescent_SharedIdeal (hSharedIdeal := hSharedIdeal)
    ∧ quiescent_SharedReferenceIdeal (hSharedReferenceIdeal := hSharedReferenceIdeal)
    ∧ preserves_Kernel_KernelIdeal
    ∧ algebraic_KernelIdeal_ReferenceIdeal_on_tiles_computed (hKernelIdeal := hKernelIdeal) (hReferenceIdeal := hReferenceIdeal) (hPre_tables_valid := hPre_tables_valid) (hOn_tiles_computed := hOn_tiles_computed)
    ∧ preserves_Shared_SharedIdeal
    ∧ algebraic_SharedIdeal_SharedReferenceIdeal (hSharedIdeal := hSharedIdeal) (hSharedReferenceIdeal := hSharedReferenceIdeal)
-- ==== On_tiles_computed.lean ====
abbrev S416 : Shape := ⟨1, ![416]⟩
abbrev S1 : Shape := ⟨1, ![1]⟩
abbrev S212992x768 : Shape := ⟨2, ![212992, 768]⟩
abbrev S416x4x128 : Shape := ⟨3, ![416, 4, 128]⟩
abbrev S32x3072x1536 : Shape := ⟨3, ![32, 3072, 1536]⟩
abbrev S32x1x1536 : Shape := ⟨3, ![32, 1, 1536]⟩
abbrev S212992x1536 : Shape := ⟨2, ![212992, 1536]⟩
abbrev S_ : Shape := ⟨0, ![]⟩

class Facts : Prop where
  bcast_S_S212992x1536 : S_.BroadcastsInDim S212992x1536 (![] : Fin 0 → Fin S212992x1536.rank)
  shapeCasts_S1_S_ : S1.ShapeCasts S_
  bcast_S_S416x4x128 : S_.BroadcastsInDim S416x4x128 (![] : Fin 0 → Fin S416x4x128.rank)

variable [Facts]

def fn {F : FTy → Type} [FloatOps F] (main_arg0 : IVec S416 32) (main_arg1 : IVec S1 32) (main_arg2 : IVec S212992x768 32) (main_arg3 : FVec F S416x4x128 .f32) (main_arg4 : FVec F S32x3072x1536 .fp8e4m3) (main_arg5 : FVec F S32x3072x1536 .fp8e4m3) (main_arg6 : FVec F S32x1x1536 .f32) (main_arg7 : FVec F S32x1x1536 .f32) : IVec S212992x1536 1 × IVec S416x4x128 1 :=
  let main_v0 : IVec S212992x1536 32 := iotaInDim S212992x1536 32 0
  let main_v1 : IVec S416x4x128 32 := iotaInDim S416x4x128 32 0
  let main_c : IVec S_ 32 := constantI S_ 32 512#32
  let main_v2 : IVec S212992x1536 32 := broadcastInDim S212992x1536 ![] bcast_S_S212992x1536 main_c
  let main_v3 : IVec S212992x1536 32 := Host.divsi main_v0 main_v2
  let main_v4 : IVec S_ 32 := shapeCast S_ main_arg1 shapeCasts_S1_S_
  let main_v5 : IVec S212992x1536 32 := broadcastInDim S212992x1536 ![] bcast_S_S212992x1536 main_v4
  let main_v6 : IVec S212992x1536 1 := cmpi .slt main_v3 main_v5
  let main_v7 : IVec S_ 32 := shapeCast S_ main_arg1 shapeCasts_S1_S_
  let main_v8 : IVec S416x4x128 32 := broadcastInDim S416x4x128 ![] bcast_S_S416x4x128 main_v7
  let main_v9 : IVec S416x4x128 1 := cmpi .slt main_v1 main_v8
  (main_v6, main_v9)
-- ==== Pre_tables_valid.lean ====
abbrev S416 : Shape := ⟨1, ![416]⟩
abbrev S1 : Shape := ⟨1, ![1]⟩
abbrev S212992x768 : Shape := ⟨2, ![212992, 768]⟩
abbrev S416x4x128 : Shape := ⟨3, ![416, 4, 128]⟩
abbrev S32x3072x1536 : Shape := ⟨3, ![32, 3072, 1536]⟩
abbrev S32x1x1536 : Shape := ⟨3, ![32, 1, 1536]⟩
abbrev S_ : Shape := ⟨0, ![]⟩

class Facts : Prop where
  shapeCasts_S1_S_ : S1.ShapeCasts S_
  bcast_S_S416 : S_.BroadcastsInDim S416 (![] : Fin 0 → Fin S416.rank)
  reducesTo_S416_S_d0 : S416.ReducesTo [0] S_
  h_S_ : 0 < S_.numel

variable [Facts]

def fn {F : FTy → Type} [FloatOps F] (main_arg0 : IVec S416 32) (main_arg1 : IVec S1 32) (main_arg2 : IVec S212992x768 32) (main_arg3 : FVec F S416x4x128 .f32) (main_arg4 : FVec F S32x3072x1536 .fp8e4m3) (main_arg5 : FVec F S32x3072x1536 .fp8e4m3) (main_arg6 : FVec F S32x1x1536 .f32) (main_arg7 : FVec F S32x1x1536 .f32) : IVec S_ 1 :=
  let main_v0 : IVec S_ 32 := shapeCast S_ main_arg1 shapeCasts_S1_S_
  let main_c : IVec S_ 32 := constantI S_ 32 1#32
  let main_v1 : IVec S_ 1 := cmpi .sge main_v0 main_c
  let main_c_0 : IVec S_ 32 := constantI S_ 32 0#32
  let main_v2 : IVec S416 32 := broadcastInDim S416 ![] bcast_S_S416 main_c_0
  let main_v3 : IVec S416 1 := cmpi .sge main_arg0 main_v2
  let main_c_1 : IVec S_ 32 := constantI S_ 32 32#32
  let main_v4 : IVec S416 32 := broadcastInDim S416 ![] bcast_S_S416 main_c_1
  let main_v5 : IVec S416 1 := cmpi .slt main_arg0 main_v4
  let main_v6 : IVec S416 1 := andi main_v3 main_v5
  let main_c_2 : IVec S_ 1 := constantI S_ 1 1#1
  let main_v7 : IVec S_ 1 := (fun x v => Host.reduce IntOp.andi x v reducesTo_S416_S_d0 h_S_) main_v6 main_c_2
  let main_v8 : IVec S_ 1 := andi main_v1 main_v7
  main_v8
-- ==== Kernel.lean ====
abbrev S416 : Shape := ⟨1, ![416]⟩
abbrev S1 : Shape := ⟨1, ![1]⟩
abbrev S212992x768 : Shape := ⟨2, ![212992, 768]⟩
abbrev S416x4x128 : Shape := ⟨3, ![416, 4, 128]⟩
abbrev S32x3072x1536 : Shape := ⟨3, ![32, 3072, 1536]⟩
abbrev S32x1x1536 : Shape := ⟨3, ![32, 1, 1536]⟩
abbrev S212992x1536 : Shape := ⟨2, ![212992, 1536]⟩
abbrev S512x768 : Shape := ⟨2, ![512, 768]⟩
abbrev S1x4x128 : Shape := ⟨3, ![1, 4, 128]⟩
abbrev S1x3072x1536 : Shape := ⟨3, ![1, 3072, 1536]⟩
abbrev S1x1x1536 : Shape := ⟨3, ![1, 1, 1536]⟩
abbrev S512x1536 : Shape := ⟨2, ![512, 1536]⟩
abbrev S512x3072 : Shape := ⟨2, ![512, 3072]⟩
abbrev S16x4x8x768 : Shape := ⟨4, ![16, 4, 8, 768]⟩
abbrev S16x1x8x768 : Shape := ⟨4, ![16, 1, 8, 768]⟩
abbrev S16x8x768 : Shape := ⟨3, ![16, 8, 768]⟩
abbrev S128x768 : Shape := ⟨2, ![128, 768]⟩
abbrev S1x1x128 : Shape := ⟨3, ![1, 1, 128]⟩
abbrev S1x128 : Shape := ⟨2, ![1, 128]⟩
abbrev S128x128 : Shape := ⟨2, ![128, 128]⟩
abbrev S512x128 : Shape := ⟨2, ![512, 128]⟩
abbrev S512x256 : Shape := ⟨2, ![512, 256]⟩
abbrev S1x3072x256 : Shape := ⟨3, ![1, 3072, 256]⟩
abbrev S3072x256 : Shape := ⟨2, ![3072, 256]⟩
abbrev S1x1x256 : Shape := ⟨3, ![1, 1, 256]⟩
abbrev S1x256 : Shape := ⟨2, ![1, 256]⟩
abbrev S512 : Shape := ⟨1, ![512]⟩
abbrev S512x1 : Shape := ⟨2, ![512, 1]⟩
abbrev S128x1 : Shape := ⟨2, ![128, 1]⟩

abbrev nBuf : Space → Nat
  | .hbm => 8
  | .vmem => 18
  | .smem => 2
  | _ => 0

abbrev bufTy : (tb : Table) → Fin (tcTables nBuf tb) → BufTy
  | .hbm, ⟨0, _⟩ => ⟨S212992x768, .i32⟩
  | .hbm, ⟨1, _⟩ => ⟨S416x4x128, .f32⟩
  | .hbm, ⟨2, _⟩ => ⟨S32x3072x1536, .fp8e4m3⟩
  | .hbm, ⟨3, _⟩ => ⟨S32x3072x1536, .fp8e4m3⟩
  | .hbm, ⟨4, _⟩ => ⟨S32x1x1536, .f32⟩
  | .hbm, ⟨5, _⟩ => ⟨S32x1x1536, .f32⟩
  | .hbm, ⟨6, _⟩ => ⟨S212992x1536, .fp8e4m3⟩
  | .hbm, ⟨7, _⟩ => ⟨S416x4x128, .f32⟩
  | .local _ .vmem, ⟨0, _⟩ => ⟨S512x768, .i32⟩
  | .local _ .vmem, ⟨1, _⟩ => ⟨S512x768, .i32⟩
  | .local _ .vmem, ⟨2, _⟩ => ⟨S1x4x128, .f32⟩
  | .local _ .vmem, ⟨3, _⟩ => ⟨S1x4x128, .f32⟩
  | .local _ .vmem, ⟨4, _⟩ => ⟨S1x3072x1536, .fp8e4m3⟩
  | .local _ .vmem, ⟨5, _⟩ => ⟨S1x3072x1536, .fp8e4m3⟩
  | .local _ .vmem, ⟨6, _⟩ => ⟨S1x3072x1536, .fp8e4m3⟩
  | .local _ .vmem, ⟨7, _⟩ => ⟨S1x3072x1536, .fp8e4m3⟩
  | .local _ .vmem, ⟨8, _⟩ => ⟨S1x1x1536, .f32⟩
  | .local _ .vmem, ⟨9, _⟩ => ⟨S1x1x1536, .f32⟩
  | .local _ .vmem, ⟨10, _⟩ => ⟨S1x1x1536, .f32⟩
  | .local _ .vmem, ⟨11, _⟩ => ⟨S1x1x1536, .f32⟩
  | .local _ .vmem, ⟨12, _⟩ => ⟨S512x1536, .fp8e4m3⟩
  | .local _ .vmem, ⟨13, _⟩ => ⟨S512x1536, .fp8e4m3⟩
  | .local _ .vmem, ⟨14, _⟩ => ⟨S1x4x128, .f32⟩
  | .local _ .vmem, ⟨15, _⟩ => ⟨S1x4x128, .f32⟩
  | .local _ .vmem, ⟨16, _⟩ => ⟨S512x3072, .fp8e4m3⟩
  | .local _ .vmem, ⟨17, _⟩ => ⟨S512x1536, .f32⟩
  | .local _ .smem, ⟨0, _⟩ => ⟨S416, .i32⟩
  | .local _ .smem, ⟨1, _⟩ => ⟨S1, .i32⟩
  | _, _ => ⟨S212992x768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![416], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S416.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S416) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S512x768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3072x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S416 : Shape := ⟨1, ![416]⟩
abbrev S1 : Shape := ⟨1, ![1]⟩
abbrev S212992x768 : Shape := ⟨2, ![212992, 768]⟩
abbrev S416x4x128 : Shape := ⟨3, ![416, 4, 128]⟩
abbrev S32x3072x1536 : Shape := ⟨3, ![32, 3072, 1536]⟩
abbrev S32x1x1536 : Shape := ⟨3, ![32, 1, 1536]⟩
abbrev S6656x4x8x768 : Shape := ⟨4, ![6656, 4, 8, 768]⟩
abbrev S6656x8x4x768 : Shape := ⟨4, ![6656, 8, 4, 768]⟩
abbrev S_ : Shape := ⟨0, ![]⟩
abbrev S212992x3072 : Shape := ⟨2, ![212992, 3072]⟩
abbrev S416x1 : Shape := ⟨2, ![416, 1]⟩
abbrev S416x512 : Shape := ⟨2, ![416, 512]⟩
abbrev S212992x1 : Shape := ⟨2, ![212992, 1]⟩
abbrev S212992x1536 : Shape := ⟨2, ![212992, 1536]⟩
abbrev S1x3072x1536 : Shape := ⟨3, ![1, 3072, 1536]⟩
abbrev S3072x1536 : Shape := ⟨2, ![3072, 1536]⟩
abbrev S1x1x1536 : Shape := ⟨3, ![1, 1, 1536]⟩
abbrev S1x1536 : Shape := ⟨2, ![1, 1536]⟩
abbrev S212992 : Shape := ⟨1, ![212992]⟩
abbrev S1x253 : Shape := ⟨2, ![1, 253]⟩
abbrev S212992x253 : Shape := ⟨2, ![212992, 253]⟩

abbrev nBuf : Space → Nat
  | .hbm => 34
  | .vmem => 9
  | .smem => 0
  | _ => 0

abbrev bufTy : (tb : Table) → Fin (tcTables nBuf tb) → BufTy
  | .hbm, ⟨0, _⟩ => ⟨S416, .i32⟩
  | .hbm, ⟨1, _⟩ => ⟨S1, .i32⟩
  | .hbm, ⟨2, _⟩ => ⟨S212992x768, .i32⟩
  | .hbm, ⟨3, _⟩ => ⟨S416x4x128, .f32⟩
  | .hbm, ⟨4, _⟩ => ⟨S32x3072x1536, .fp8e4m3⟩
  | .hbm, ⟨5, _⟩ => ⟨S32x3072x1536, .fp8e4m3⟩
  | .hbm, ⟨6, _⟩ => ⟨S32x1x1536, .f32⟩
  | .hbm, ⟨7, _⟩ => ⟨S32x1x1536, .f32⟩
  | .hbm, ⟨8, _⟩ => ⟨S6656x4x8x768, .i32⟩
  | .hbm, ⟨9, _⟩ => ⟨S6656x8x4x768, .i32⟩
  | .hbm, ⟨10, _⟩ => ⟨S212992x768, .i32⟩
  | .hbm, ⟨11, _⟩ => ⟨S_, .i32⟩
  | .hbm, ⟨12, _⟩ => ⟨S212992x768, .i32⟩
  | .hbm, ⟨13, _⟩ => ⟨S212992x768, .i32⟩
  | .hbm, ⟨14, _⟩ => ⟨S212992x768, .i8⟩
  | .hbm, ⟨15, _⟩ => ⟨S_, .i32⟩
  | .hbm, ⟨16, _⟩ => ⟨S212992x768, .i32⟩
  | .hbm, ⟨17, _⟩ => ⟨S212992x768, .i32⟩
  | .hbm, ⟨18, _⟩ => ⟨S212992x768, .i8⟩
  | .hbm, ⟨19, _⟩ => ⟨S_, .i32⟩
  | .hbm, ⟨20, _⟩ => ⟨S212992x768, .i32⟩
  | .hbm, ⟨21, _⟩ => ⟨S212992x768, .i32⟩
  | .hbm, ⟨22, _⟩ => ⟨S212992x768, .i8⟩
  | .hbm, ⟨23, _⟩ => ⟨S_, .i32⟩
  | .hbm, ⟨24, _⟩ => ⟨S212992x768, .i32⟩
  | .hbm, ⟨25, _⟩ => ⟨S212992x768, .i32⟩
  | .hbm, ⟨26, _⟩ => ⟨S212992x768, .i8⟩
  | .hbm, ⟨27, _⟩ => ⟨S212992x3072, .i8⟩
  | .hbm, ⟨28, _⟩ => ⟨S416x1, .i32⟩
  | .hbm, ⟨29, _⟩ => ⟨S416x512, .i32⟩
  | .hbm, ⟨30, _⟩ => ⟨S212992x1, .i32⟩
  | .hbm, ⟨31, _⟩ => ⟨S212992x1, .f32⟩
  | .hbm, ⟨32, _⟩ => ⟨S212992x1536, .fp8e4m3⟩
  | .hbm, ⟨33, _⟩ => ⟨S416x4x128, .f32⟩
  | .local _ .vmem, ⟨0, _⟩ => ⟨S212992x3072, .i8⟩
  | .local _ .vmem, ⟨1, _⟩ => ⟨S212992x1, .f32⟩
  | .local _ .vmem, ⟨2, _⟩ => ⟨S212992x1, .i32⟩
  | .local _ .vmem, ⟨3, _⟩ => ⟨S32x3072x1536, .fp8e4m3⟩
  | .local _ .vmem, ⟨4, _⟩ => ⟨S32x3072x1536, .fp8e4m3⟩
  | .local _ .vmem, ⟨5, _⟩ => ⟨S32x1x1536, .f32⟩
  | .local _ .vmem, ⟨6, _⟩ => ⟨S32x1x1536, .f32⟩
  | .local _ .vmem, ⟨7, _⟩ => ⟨S212992x1536, .fp8e4m3⟩
  | .local _ .vmem, ⟨8, _⟩ => ⟨S416x4x128, .f32⟩
  | _, _ => ⟨S416, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v48 : Index := Scalar.indexCast arg9
  let c0_21 : Index := 0#32
  let c0_22 : Index := 0#32
  ![v48.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v54 : Index := Scalar.indexCast arg9
  let c0_24 : Index := 0#32
  let c0_25 : Index := 0#32
  ![v54.toNat, 0, 0]
abbrev stage0_0 : Fin 1 → Memref sig .tc .vmem S212992x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S212992x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S212992x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x3072x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x3072x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S212992x1536 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S416x4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Shared.lean ====
abbrev S24576x3072 : Shape := ⟨2, ![24576, 3072]⟩
abbrev S48x4x128 : Shape := ⟨3, ![48, 4, 128]⟩
abbrev S3072x1536 : Shape := ⟨2, ![3072, 1536]⟩
abbrev S1x1536 : Shape := ⟨2, ![1, 1536]⟩
abbrev S24576x1536 : Shape := ⟨2, ![24576, 1536]⟩
abbrev S512x3072 : Shape := ⟨2, ![512, 3072]⟩
abbrev S1x4x128 : Shape := ⟨3, ![1, 4, 128]⟩
abbrev S512x1536 : Shape := ⟨2, ![512, 1536]⟩
abbrev S1x1x128 : Shape := ⟨3, ![1, 1, 128]⟩
abbrev S1x128 : Shape := ⟨2, ![1, 128]⟩
abbrev S128x128 : Shape := ⟨2, ![128, 128]⟩
abbrev S512x128 : Shape := ⟨2, ![512, 128]⟩
abbrev S512x256 : Shape := ⟨2, ![512, 256]⟩
abbrev S3072x256 : Shape := ⟨2, ![3072, 256]⟩
abbrev S1x256 : Shape := ⟨2, ![1, 256]⟩
abbrev S512 : Shape := ⟨1, ![512]⟩
abbrev S512x1 : Shape := ⟨2, ![512, 1]⟩
abbrev S128x1 : Shape := ⟨2, ![128, 1]⟩

abbrev nBuf : Space → Nat
  | .hbm => 8
  | .vmem => 13
  | .smem => 0
  | _ => 0

abbrev bufTy : (tb : Table) → Fin (tcTables nBuf tb) → BufTy
  | .hbm, ⟨0, _⟩ => ⟨S24576x3072, .fp8e4m3⟩
  | .hbm, ⟨1, _⟩ => ⟨S48x4x128, .f32⟩
  | .hbm, ⟨2, _⟩ => ⟨S3072x1536, .fp8e4m3⟩
  | .hbm, ⟨3, _⟩ => ⟨S3072x1536, .fp8e4m3⟩
  | .hbm, ⟨4, _⟩ => ⟨S1x1536, .f32⟩
  | .hbm, ⟨5, _⟩ => ⟨S1x1536, .f32⟩
  | .hbm, ⟨6, _⟩ => ⟨S24576x1536, .fp8e4m3⟩
  | .hbm, ⟨7, _⟩ => ⟨S48x4x128, .f32⟩
  | .local _ .vmem, ⟨0, _⟩ => ⟨S512x3072, .fp8e4m3⟩
  | .local _ .vmem, ⟨1, _⟩ => ⟨S512x3072, .fp8e4m3⟩
  | .local _ .vmem, ⟨2, _⟩ => ⟨S1x4x128, .f32⟩
  | .local _ .vmem, ⟨3, _⟩ => ⟨S1x4x128, .f32⟩
  | .local _ .vmem, ⟨4, _⟩ => ⟨S3072x1536, .fp8e4m3⟩
  | .local _ .vmem, ⟨5, _⟩ => ⟨S3072x1536, .fp8e4m3⟩
  | .local _ .vmem, ⟨6, _⟩ => ⟨S1x1536, .f32⟩
  | .local _ .vmem, ⟨7, _⟩ => ⟨S1x1536, .f32⟩
  | .local _ .vmem, ⟨8, _⟩ => ⟨S512x1536, .fp8e4m3⟩
  | .local _ .vmem, ⟨9, _⟩ => ⟨S512x1536, .fp8e4m3⟩
  | .local _ .vmem, ⟨10, _⟩ => ⟨S1x4x128, .f32⟩
  | .local _ .vmem, ⟨11, _⟩ => ⟨S1x4x128, .f32⟩
  | .local _ .vmem, ⟨12, _⟩ => ⟨S512x1536, .f32⟩
  | _, _ => ⟨S24576x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SharedReferenceIdeal.lean ====
abbrev S24576x3072 : Shape := ⟨2, ![24576, 3072]⟩
abbrev S48x4x128 : Shape := ⟨3, ![48, 4, 128]⟩
abbrev S3072x1536 : Shape := ⟨2, ![3072, 1536]⟩
abbrev S1x1536 : Shape := ⟨2, ![1, 1536]⟩
abbrev S24576x1 : Shape := ⟨2, ![24576, 1]⟩
abbrev S24576x1536 : Shape := ⟨2, ![24576, 1536]⟩
abbrev S24576 : Shape := ⟨1, ![24576]⟩
abbrev S1x253 : Shape := ⟨2, ![1, 253]⟩
abbrev S24576x253 : Shape := ⟨2, ![24576, 253]⟩

abbrev nBuf : Space → Nat
  | .hbm => 9
  | .vmem => 8
  | .smem => 0
  | _ => 0

abbrev bufTy : (tb : Table) → Fin (tcTables nBuf tb) → BufTy
  | .hbm, ⟨0, _⟩ => ⟨S24576x3072, .fp8e4m3⟩
  | .hbm, ⟨1, _⟩ => ⟨S48x4x128, .f32⟩
  | .hbm, ⟨2, _⟩ => ⟨S3072x1536, .fp8e4m3⟩
  | .hbm, ⟨3, _⟩ => ⟨S3072x1536, .fp8e4m3⟩
  | .hbm, ⟨4, _⟩ => ⟨S1x1536, .f32⟩
  | .hbm, ⟨5, _⟩ => ⟨S1x1536, .f32⟩
  | .hbm, ⟨6, _⟩ => ⟨S24576x1, .f32⟩
  | .hbm, ⟨7, _⟩ => ⟨S24576x1536, .fp8e4m3⟩
  | .hbm, ⟨8, _⟩ => ⟨S48x4x128, .f32⟩
  | .local _ .vmem, ⟨0, _⟩ => ⟨S24576x3072, .fp8e4m3⟩
  | .local _ .vmem, ⟨1, _⟩ => ⟨S24576x1, .f32⟩
  | .local _ .vmem, ⟨2, _⟩ => ⟨S3072x1536, .fp8e4m3⟩
  | .local _ .vmem, ⟨3, _⟩ => ⟨S3072x1536, .fp8e4m3⟩
  | .local _ .vmem, ⟨4, _⟩ => ⟨S1x1536, .f32⟩
  | .local _ .vmem, ⟨5, _⟩ => ⟨S1x1536, .f32⟩
  | .local _ .vmem, ⟨6, _⟩ => ⟨S24576x1536, .fp8e4m3⟩
  | .local _ .vmem, ⟨7, _⟩ => ⟨S48x4x128, .f32⟩
  | _, _ => ⟨S24576x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Pow2.lean ====
/- THE ROW SCALE OF THE QUANTISER, as a statement about one extended real. The kernel finds the exponent of `v` by eight
   comparisons, from 2^128's field bit down to 2^1's (`field`), and builds the scale from the integer field above it
   (`ladderScale`); the plain definition is the least power of two strictly above `v` (`leastPower`), with 1 below the
   smallest normal number and at infinity. `ladderScale_eq` says that they agree at every extended real. -/
module

public import Idealize.ShloMosaic.Lib.Pipeline.ValueKit

@[expose] public section

noncomputable section

namespace Cert.Proof.Pow2

open Idealize.ShloMosaic

/-- The word whose exponent field is `n` and whose other bits are zero. -/
def word (n : ℕ) : BitVec 32 := BitVec.ofNat 32 n <<< 23

/-- The value of that float. -/
def pw (n : ℕ) : EReal := Ideal.ofBits .f32 (word n)

theorem fields : ∀ n : Fin 256, (BitVec.extractLsb' 23 8 (word n)).toNat = n ∧ (BitVec.extractLsb' 0 23 (word n)).toNat = 0
    ∧ (BitVec.extractLsb' 31 1 (word n) == 1#1) = false := by decide +kernel

theorem mantissa : ((1 : ℝ) * ((2 ^ 23 + 0 : ℕ) : ℝ)) = (2 : ℝ) ^ (23 : ℤ) := by
  rw [Nat.add_zero, Nat.cast_pow, one_mul]
  norm_num

theorem pw_eq (n : ℕ) (h : n ≤ 255) : pw n = if n = 255 then ⊤ else if n = 0 then 0
    else (((2 : ℝ) ^ ((n : ℤ) - 127) : ℝ) : EReal) := by
  obtain ⟨e1, e2, e3⟩ := fields ⟨n, by omega⟩
  have h2 : (2 : ℝ) ≠ 0 := by norm_num
  show Ideal.ieee 8 23 (word n) = _
  unfold Ideal.ieee
  simp only [e1, e2, e3, Bool.false_eq_true, if_false, if_true]
  by_cases c1 : n = 255
  · rw [if_pos c1, if_pos (c1.trans (by norm_num))]
  rw [if_neg c1, if_neg (fun e => c1 (e.trans (by norm_num)))]
  by_cases c0 : n = 0
  · rw [if_pos c0, if_pos c0, Nat.cast_zero, mul_zero, zero_mul, EReal.coe_zero]
  rw [if_neg c0, if_neg c0, mantissa, ← zpow_add₀ h2]
  exact congrArg (fun z : ℤ => (((2 : ℝ) ^ z : ℝ) : EReal)) (by norm_num)

theorem pw_zero : pw 0 = 0 := by rw [pw_eq 0 (by norm_num)]; simp

theorem pw_top : pw 255 = ⊤ := by rw [pw_eq 255 le_rfl]; simp

theorem pw_mid (n : ℕ) (h1 : 1 ≤ n) (h : n ≤ 254) : pw n = (((2 : ℝ) ^ ((n : ℤ) - 127) : ℝ) : EReal) := by
  rw [pw_eq n (by omega), if_neg (by omega), if_neg (by omega)]

theorem pw_one_pos : (0 : EReal) < pw 1 := by
  rw [pw_mid 1 le_rfl (by norm_num)]
  exact_mod_cast (by positivity : (0 : ℝ) < (2 : ℝ) ^ (((1 : ℕ) : ℤ) - 127))

/-- The powers increase with the field. -/
theorem pw_lt {a b : ℕ} (h1 : 1 ≤ a) (hab : a < b) (hb : b ≤ 255) : pw a < pw b := by
  rw [pw_mid a h1 (by omega)]
  rcases Nat.lt_or_ge b 255 with h | h
  · rw [pw_mid b (by omega) (by omega)]
    exact EReal.coe_lt_coe_iff.mpr (zpow_lt_zpow_right₀ (by norm_num : (1 : ℝ) < 2) (by omega))
  · obtain rfl : b = 255 := by omega
    rw [pw_top]
    exact EReal.coe_lt_top _

theorem pw_le {a b : ℕ} (h1 : 1 ≤ a) (hab : a ≤ b) (hb : b ≤ 255) : pw a ≤ pw b := by
  rcases Nat.eq_or_lt_of_le hab with rfl | h
  · exact le_rfl
  · exact (pw_lt h1 h hb).le

/-- One comparison of the ladder: raise the field by `k` if the power there is at most `v`. -/
def step (v : EReal) (k b : BitVec 32) : BitVec 32 :=
  Scalar.select (Ideal.cmp .oge v (Ideal.ofBits .f32 (IntOp.shli .vector (IntOp.addi b k) 23#32))) (IntOp.addi b k) b

/-- The exponent field of `v`, as the kernel finds it. -/
def field (v : EReal) : BitVec 32 :=
  step v 1#32 (step v 2#32 (step v 4#32 (step v 8#32 (step v 16#32 (step v 32#32 (step v 64#32 (step v 128#32 0#32)))))))

/-- The scale the kernel makes of an exponent field. -/
def scaleOf (b : BitVec 32) : EReal :=
  Ideal.ofBits .f32 (IntOp.shli .vector (IntOp.addi (Scalar.select (IntOp.ori (IntOp.cmpi .eq b 0#32) (IntOp.cmpi .eq b 255#32))
    0#32 (IntOp.subi b 126#32)) 127#32) 23#32)

/-- The kernel's scale. -/
def ladderScale (v : EReal) : EReal := scaleOf (field v)

/-- The least of the powers 2^-125 … 2^127 strictly above `v`; infinity if there is none. -/
def leastPower (v : EReal) : EReal :=
  Finset.univ.fold min ⊤ fun c : Fin 253 => if v < Ideal.exp2 (((c : ℕ) : ℝ) - 125 : ℝ) then Ideal.exp2 (((c : ℕ) : ℝ) - 125 : ℝ) else ⊤

/-- The plain definition's scale. -/
def plainScale (v : EReal) : EReal := if v < pw 1 ∨ v = ⊤ then 1 else leastPower v

theorem exp2_pw (c : Fin 253) : Ideal.exp2 (((c : ℕ) : ℝ) - 125 : ℝ) = pw (c + 2) := by
  rw [pw_mid _ (by omega) (by omega)]
  show ((Real.rpow 2 _ : ℝ) : EReal) = _
  congr 1
  rw [show (((c : ℕ) : ℝ) - 125 : ℝ) = ((((c : ℕ) + 2 : ℕ) : ℤ) - 127 : ℤ) by push_cast; ring]
  exact Real.rpow_intCast 2 _

theorem shl_ofNat (n : ℕ) : IntOp.shli .vector (BitVec.ofNat 32 n) 23#32 = word n := by
  unfold IntOp.shli
  rw [if_pos (by decide)]
  rfl

theorem add_ofNat (n k : ℕ) : IntOp.addi (BitVec.ofNat 32 n) (BitVec.ofNat 32 k) = BitVec.ofNat 32 (n + k) := by
  unfold IntOp.addi
  exact (BitVec.ofNat_add n k).symm

/-- `v` lies between the power at `n` (no bound below at `n = 0`) and the power at `n + w` (no bound above at 256). -/
def Between (v : EReal) (n w : ℕ) : Prop := n + w ≤ 256 ∧ (n = 0 ∨ pw n ≤ v) ∧ (n + w = 256 ∨ v < pw (n + w))

theorem step_ofNat (v : EReal) (k n : ℕ) : step v (BitVec.ofNat 32 k) (BitVec.ofNat 32 n)
    = BitVec.ofNat 32 (if pw (n + k) ≤ v then n + k else n) := by
  unfold step
  rw [add_ofNat, shl_ofNat]
  show Scalar.select (BitVec.ofBool (decide (pw (n + k) ≤ v))) _ _ = _
  by_cases h : pw (n + k) ≤ v <;> simp [h, Scalar.select]

/-- One comparison halves the interval. -/
theorem step_between (v : EReal) (k n : ℕ) (b : BitVec 32) (hb : b = BitVec.ofNat 32 n) (h : Between v n (2 * k)) :
    ∃ n', step v (BitVec.ofNat 32 k) b = BitVec.ofNat 32 n' ∧ Between v n' k := by
  subst hb
  refine ⟨_, step_ofNat v k n, ?_⟩
  split
  · next hle => exact ⟨by have := h.1; omega, .inr hle, by rw [show n + k + k = n + 2 * k by ring]; exact h.2.2⟩
  · next hle => exact ⟨by have := h.1; omega, h.2.1, .inr (lt_of_not_ge hle)⟩

theorem field_between (v : EReal) : ∃ n, field v = BitVec.ofNat 32 n ∧ Between v n 1 := by
  have h0 : Between v 0 (2 * 128) := ⟨le_rfl, .inl rfl, .inl rfl⟩
  obtain ⟨n1, e1, h1⟩ := step_between v 128 0 0#32 rfl h0
  obtain ⟨n2, e2, h2⟩ := step_between v 64 n1 _ e1 h1
  obtain ⟨n3, e3, h3⟩ := step_between v 32 n2 _ e2 h2
  obtain ⟨n4, e4, h4⟩ := step_between v 16 n3 _ e3 h3
  obtain ⟨n5, e5, h5⟩ := step_between v 8 n4 _ e4 h4
  obtain ⟨n6, e6, h6⟩ := step_between v 4 n5 _ e5 h5
  obtain ⟨n7, e7, h7⟩ := step_between v 2 n6 _ e6 h6
  obtain ⟨n8, e8, h8⟩ := step_between v 1 n7 _ e7 h7
  exact ⟨n8, e8, h8⟩

theorem scaleOf_ofNat : ∀ n : Fin 256, IntOp.shli .vector (IntOp.addi (Scalar.select (IntOp.ori (IntOp.cmpi .eq (BitVec.ofNat 32 n) 0#32)
      (IntOp.cmpi .eq (BitVec.ofNat 32 n) 255#32)) 0#32 (IntOp.subi (BitVec.ofNat 32 n) 126#32)) 127#32) 23#32
    = word (if (n : ℕ) = 0 ∨ (n : ℕ) = 255 then 127 else n + 1) := by decide +kernel

theorem pw_127 : pw 127 = 1 := by rw [pw_mid 127 (by norm_num) (by norm_num)]; norm_num

/-- The least power strictly above `v`, when `v` lies in the binade of the field `n`. -/
theorem leastPower_eq (v : EReal) (n : ℕ) (h1 : 1 ≤ n) (h : n ≤ 254) (hl : pw n ≤ v) (hu : v < pw (n + 1)) :
    leastPower v = pw (n + 1) := by
  unfold leastPower
  simp only [exp2_pw]
  apply le_antisymm
  · rw [Finset.fold_min_le]
    rcases Nat.lt_or_ge n 254 with h' | h'
    · refine .inr ⟨⟨n - 1, by omega⟩, Finset.mem_univ _, ?_⟩
      simp only [show n - 1 + 2 = n + 1 by omega]
      rw [if_pos hu]
    · obtain rfl : n = 254 := by omega
      rw [pw_top]
      exact .inl le_rfl
  · rw [Finset.le_fold_min]
    refine ⟨le_top, fun c _ => ?_⟩
    split
    · next hc =>
      have : n < (c : ℕ) + 2 := by
        by_contra hn
        exact absurd (lt_of_le_of_lt (le_trans (pw_le (by omega) (by omega : (c : ℕ) + 2 ≤ n) (by omega)) hl) hc) (lt_irrefl _)
      exact pw_le (by omega) (by omega) (by omega)
    · exact le_top

/-- The kernel's scale is the plain definition's, at every extended real. -/
theorem ladderScale_eq (v : EReal) : ladderScale v = plainScale v := by
  obtain ⟨n, e, hn, hl, hu⟩ := field_between v
  unfold ladderScale scaleOf
  rw [e, scaleOf_ofNat ⟨n, by omega⟩]
  show pw _ = _
  unfold plainScale
  by_cases c0 : n = 0
  · subst c0
    rw [if_pos (.inl rfl), pw_127, if_pos (.inl (hu.resolve_left (by norm_num)))]
  by_cases c1 : n = 255
  · subst c1
    rw [if_pos (.inr rfl), pw_127, if_pos (.inr (top_le_iff.mp (pw_top ▸ hl.resolve_left (by norm_num))))]
  have hl' := hl.resolve_left c0
  have hu' := hu.resolve_left (by omega)
  rw [if_neg (by simp only; omega), if_neg ?_]
  · exact (leastPower_eq v n (by omega) (by omega) hl' hu').symm
  · rintro (hv | hv)
    · exact absurd (lt_of_le_of_lt (le_trans (pw_le le_rfl (by omega) (by omega)) hl') hv) (lt_irrefl _)
    · subst hv
      exact absurd (lt_of_lt_of_le hu' le_top) (lt_irrefl _)

end Cert.Proof.Pow2

end
-- ==== Proof.Rows.lean ====
/- A maximum or minimum along the columns of a matrix, read at a row: a fold over the columns, at any extents. -/
module

public import Idealize.ShloMosaic.Lib.Pipeline.ValueKit

@[expose] public section

noncomputable section

namespace Cert.Proof.Rows

open Idealize.ShloMosaic

variable {n m : ℕ}

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem rowMax (x : FVec Ideal ⟨2, ![n, m]⟩ .f32) (h : (⟨2, ![n, m]⟩ : Shape).Reduces [1] ⟨1, ![n]⟩) (hφ) (hacc)
    (i : (⟨1, ![n]⟩ : Shape).Idx) :
    multiReduction .maximumf [1] ⟨1, ![n]⟩ x 0xFF800000#32 h hφ hacc i = Finset.univ.fold max ⊥ fun k : Fin m => x (ix2 (i 0) k) := by
  rw [multiReduction_maximumf_eq_fold, Shape.Reduces.fold_fiber_r2_a1]
  exact congrArg (fun b => Finset.univ.fold max b fun k : Fin m => x (ix2 (i 0) k)) ofBits_bot

theorem rowMin (x : FVec Ideal ⟨2, ![n, m]⟩ .f32) (h : (⟨2, ![n, m]⟩ : Shape).Reduces [1] ⟨1, ![n]⟩) (hφ) (hacc)
    (i : (⟨1, ![n]⟩ : Shape).Idx) :
    multiReduction .minimumf [1] ⟨1, ![n]⟩ x 0x7F800000#32 h hφ hacc i = Finset.univ.fold min ⊤ fun k : Fin m => x (ix2 (i 0) k) := by
  rw [multiReduction_minimumf_eq_fold, Shape.Reduces.fold_fiber_r2_a1]
  exact congrArg (fun b => Finset.univ.fold min b fun k : Fin m => x (ix2 (i 0) k)) ofBits_top

/-- A vector of `n` read as a column. -/
theorem column {α : Type} (v : (⟨1, ![n]⟩ : Shape).Idx → α) (hs : (⟨1, ![n]⟩ : Shape).ShapeCasts ⟨2, ![n, 1]⟩)
    (i : (⟨2, ![n, 1]⟩ : Shape).Idx) : shapeCast ⟨2, ![n, 1]⟩ v hs i = v (ix1 (i 0)) := by
  refine shapeCast_apply v hs i (ix1 (i 0)) ?_
  rw [Shape.rowMajor_val_one, Shape.rowMajor_val_two]
  have h1 : (i 1).val < 1 := (i 1).isLt
  show (i 0).val = (i 0).val * 1 + (i 1).val
  omega

/-- The row maximum as a column, times a constant. -/
theorem rowMax_col (x : FVec Ideal ⟨2, ![n, m]⟩ .f32) (h : (⟨2, ![n, m]⟩ : Shape).Reduces [1] ⟨1, ![n]⟩) (hφ) (hacc)
    (hs : (⟨1, ![n]⟩ : Shape).ShapeCasts ⟨2, ![n, 1]⟩) (c : Ideal .f32) (i : (⟨2, ![n, 1]⟩ : Shape).Idx) :
    mulf (shapeCast ⟨2, ![n, 1]⟩ (multiReduction .maximumf [1] ⟨1, ![n]⟩ x 0xFF800000#32 h hφ hacc) hs) (broadcast ⟨2, ![n, 1]⟩ c) i
    = (Finset.univ.fold max ⊥ fun k : Fin m => x (ix2 (i 0) k)) * c := by
  show shapeCast ⟨2, ![n, 1]⟩ _ hs i * c = _
  rw [column, rowMax]
  rfl

/-- The row minimum as a column. -/
theorem rowMin_col (x : FVec Ideal ⟨2, ![n, m]⟩ .f32) (h : (⟨2, ![n, m]⟩ : Shape).Reduces [1] ⟨1, ![n]⟩) (hφ) (hacc)
    (hs : (⟨1, ![n]⟩ : Shape).ShapeCasts ⟨2, ![n, 1]⟩) (i : (⟨2, ![n, 1]⟩ : Shape).Idx) :
    shapeCast ⟨2, ![n, 1]⟩ (multiReduction .minimumf [1] ⟨1, ![n]⟩ x 0x7F800000#32 h hφ hacc) hs i
    = Finset.univ.fold min ⊤ fun k : Fin m => x (ix2 (i 0) k) := by
  rw [column, rowMin]
  rfl

/-- A cast of a matrix to its own shape changes nothing. -/
theorem cast_self {α : Type} (v : (⟨2, ![n, m]⟩ : Shape).Idx → α) (hs : (⟨2, ![n, m]⟩ : Shape).ShapeCasts ⟨2, ![n, m]⟩)
    (i : (⟨2, ![n, m]⟩ : Shape).Idx) : shapeCast ⟨2, ![n, m]⟩ v hs i = v i := shapeCast_apply v hs i i rfl

end Cert.Proof.Rows

end
-- ==== Proof.Spec.lean ====
/- ONE ROW of the expert's first layer, as extended reals: the gated product `hval`, the row's quantiser scale `scaleRow`
   and its codes `codeRow`. Both programs are compared with these. `amax_fold`: a maximum kept in 128 lanes over twelve
   column blocks, from zero, is the row's maximum. -/
module

public import proofs.«01_k».proof.Proof.Pow2
public import proofs.«01_k».proof.Proof.Rows

@[expose] public section

noncomputable section

namespace Cert.Proof.Spec

open Idealize.ShloMosaic

/-- `silu (x·wg · s · a) * (x·wu · s · b)` for one row `x` and one column of each weight. -/
def hval (x wg wu : Fin 3072 → EReal) (s a b : EReal) : EReal :=
  (∑ k, x k * wg k) * s * a * Ideal.logistic ((∑ k, x k * wg k) * s * a) * ((∑ k, x k * wu k) * s * b)

/-- The absolute value. -/
def mag (x : EReal) : EReal := FloatOps.absf (F := Ideal) (φ := .f32) x

theorem mag_nonneg (x : EReal) : 0 ≤ mag x := by
  show 0 ≤ max x (-x)
  rcases le_total 0 x with h | h
  · exact le_max_of_le_left h
  · exact le_max_of_le_right (EReal.neg_nonneg.mpr h)

/-- The scale of a row: from the row's greatest absolute value times the constant for 1/448. -/
def scaleRow (h : Fin 1536 → EReal) : EReal :=
  Pow2.plainScale (Finset.univ.fold max ⊥ (fun k => mag (h k)) * Ideal.ofBits .f32 0x3B124925#32)

/-- A code of a row: divided by the row's scale and clipped. -/
def codeRow (h : Fin 1536 → EReal) (f : Fin 1536) : EReal :=
  min (Ideal.ofBits .f32 0x43E00000#32) (max (Ideal.ofBits .f32 0xC3E00000#32) (h f * Ideal.div 1 (scaleRow h)))

/-- Column `128 b + l`. -/
def col (b : Fin 12) (l : Fin 128) : Fin 1536 := ⟨128 * b + l, by omega⟩

theorem amax_fold (f : Fin 1536 → EReal) (h0 : ∀ k, 0 ≤ f k) (g : Fin 128 → EReal)
    (hg : ∀ l, g l = max (max (max (max (max (max 0 (max (f (col 0 l)) (f (col 1 l)))) (max (f (col 2 l)) (f (col 3 l))))
      (max (f (col 4 l)) (f (col 5 l)))) (max (f (col 6 l)) (f (col 7 l)))) (max (f (col 8 l)) (f (col 9 l)))) (max (f (col 10 l)) (f (col 11 l)))) :
    Finset.univ.fold max ⊥ g = Finset.univ.fold max ⊥ f := by
  have up : ∀ k, f k ≤ Finset.univ.fold max ⊥ f := fun k => Finset.le_fold_max _ |>.mpr (.inr ⟨k, Finset.mem_univ _, le_rfl⟩)
  have hz : 0 ≤ Finset.univ.fold max ⊥ f := le_trans (h0 0) (up 0)
  apply le_antisymm
  · rw [Finset.fold_max_le]
    refine ⟨bot_le, fun l _ => ?_⟩
    rw [hg]
    simp only [max_le_iff]
    refine ⟨⟨⟨⟨⟨⟨hz, ?_⟩, ?_⟩, ?_⟩, ?_⟩, ?_⟩, ?_⟩ <;> exact ⟨up _, up _⟩
  · rw [Finset.fold_max_le]
    refine ⟨bot_le, fun k _ => ?_⟩
    have hl : (k : ℕ) % 128 < 128 := Nat.mod_lt _ (by norm_num)
    refine (Finset.le_fold_max _).mpr (.inr ⟨⟨(k : ℕ) % 128, hl⟩, Finset.mem_univ _, ?_⟩)
    obtain ⟨b, hb⟩ : ∃ b : Fin 12, k = col b ⟨(k : ℕ) % 128, hl⟩ :=
      ⟨⟨(k : ℕ) / 128, by omega⟩, Fin.ext (by simp only [col]; omega)⟩
    rw [hg]
    generalize (⟨(k : ℕ) % 128, hl⟩ : Fin 128) = l at hb
    rw [hb]
    simp only [le_max_iff]
    match b with
    | 0 | 1 | 2 | 3 | 4 | 5 | 6 | 7 | 8 | 9 | 10 | 11 => simp only [le_refl, true_or, or_true]

end Cert.Proof.Spec

end
-- ==== Proof.SharedArrays.lean ====
/- THE TWO RESULTS OF `shared_up` as functions of the argument arrays: `codes` and `scales`, row by row. -/
module

public import proofs.«01_k».proof.Proof.Spec
public import proofs.«01_k».proof.Proof.Gen.SharedIdeal

@[expose] public section

noncomputable section

namespace Cert.Proof.SharedArrays

open Cert.SharedIdeal Cert.Proof.Spec Idealize.ShloMosaic Idealize.ShloMosaic.TcCoe

variable (a0 : Vec Ideal S24576x3072 .fp8e4m3) (a1 : Vec Ideal S48x4x128 .f32) (a2 a3 : Vec Ideal S3072x1536 .fp8e4m3)
  (a4 a5 : Vec Ideal S1x1536 .f32)

/-- The gated product of row `r` at column `f`. -/
def hA (r : Fin 24576) (f : Fin 1536) : EReal :=
  hval (fun k => a0 (ix2 r k)) (fun k => a2 (ix2 k f)) (fun k => a3 (ix2 k f))
    (a1 (ix3 ⟨(r : ℕ) / 512, by omega⟩ ⟨(r : ℕ) / 128 % 4, by omega⟩ ⟨(r : ℕ) % 128, by omega⟩)) (a4 (ix2 0 f)) (a5 (ix2 0 f))

/-- The codes. -/
def codes : Vec Ideal S24576x1536 .fp8e4m3 := fun y => codeRow (hA a0 a1 a2 a3 a4 a5 (y 0)) (y 1)

/-- The scales: row `512 t + 128 k + l` at entry `(t, k, l)`. -/
def scales : Vec Ideal S48x4x128 .f32 := fun y => scaleRow (hA a0 a1 a2 a3 a4 a5 ⟨512 * (y 0 : ℕ) + 128 * (y 1 : ℕ) + (y 2 : ℕ), by
  have h0 := (y 0).isLt; have h1 := (y 1).isLt; have h2 := (y 2).isLt; simp at h0 h1 h2; omega⟩)

end Cert.Proof.SharedArrays

end
-- ==== Proof.SharedBlock.lean ====
/- WHAT ONE GRID POINT OF `shared_up` WRITES: the codes and the scales of its 512 rows, as functions of the point's input
   blocks (`out6`, `out7`). The body works through six column blocks of 256, keeps each block's gated product in a
   scratch buffer and a running maximum in 128 lanes; here the six blocks are one function of the column (`hB`). -/
module

public import proofs.«01_k».proof.Proof.Spec
public import proofs.«01_k».proof.Proof.Gen.SharedIdeal.Value

@[expose] public section

set_option maxRecDepth 16384

noncomputable section

namespace Cert.Proof.SharedBlock

open Cert.SharedIdeal Cert.SharedIdeal.Gen Cert.Proof.Spec Idealize.ShloMosaic Idealize.ShloMosaic.TcCoe Idealize.SL.Sem

/-- The gated product of the block's row `r` at column `f`. -/
def hB (x0 : Vec Ideal S512x3072 .fp8e4m3) (x1 : Vec Ideal S1x4x128 .f32) (x2 x3 : Vec Ideal S3072x1536 .fp8e4m3)
    (x4 x5 : Vec Ideal S1x1536 .f32) (r : Fin 512) (f : Fin 1536) : EReal :=
  hval (fun k => x0 (ix2 r k)) (fun k => x2 (ix2 k f)) (fun k => x3 (ix2 k f))
    (x1 (ix3 0 ⟨(r : ℕ) / 128, by omega⟩ ⟨(r : ℕ) % 128, by omega⟩)) (x4 (ix2 0 f)) (x5 (ix2 0 f))

variable (c : Dev nD) (i : grid0.Coords)  (arg1 : Memref sig .tc .vmem S512x3072 .fp8e4m3) (harg1 : arg1.IsWhole) (arg2 : Memref sig .tc .vmem S1x4x128 .f32) (harg2 : arg2.IsWhole) (arg3 : Memref sig .tc .vmem S3072x1536 .fp8e4m3) (harg3 : arg3.IsWhole) (arg4 : Memref sig .tc .vmem S3072x1536 .fp8e4m3) (harg4 : arg4.IsWhole) (arg5 : Memref sig .tc .vmem S1x1536 .f32) (harg5 : arg5.IsWhole) (arg6 : Memref sig .tc .vmem S1x1536 .f32) (harg6 : arg6.IsWhole) (arg7 : Memref sig .tc .vmem S512x1536 .fp8e4m3) (harg7 : arg7.IsWhole) (arg8 : Memref sig .tc .vmem S1x4x128 .f32) (harg8 : arg8.IsWhole) (arg9 : Memref sig .tc .vmem S512x1536 .f32) (harg9 : arg9.IsWhole)
    (x0 : Vec Ideal S512x3072 .fp8e4m3) (x1 : Vec Ideal S1x4x128 .f32) (x2 x3 : Vec Ideal S3072x1536 .fp8e4m3)
    (x4 x5 : Vec Ideal S1x1536 .f32)

/-- The row scales, copied along 256 columns. -/
theorem pay4_at (j : S512x256.Idx) : k0_pay4 (F := Ideal)
    (View.ld x1 (Rect.unit ![0, 0, 0] S1x1x128.size inb_S1x4x128_S1x1x128_0_0_0))
    (View.ld x1 (Rect.unit ![0, 1, 0] S1x1x128.size inb_S1x4x128_S1x1x128_0_1_0))
    (View.ld x1 (Rect.unit ![0, 2, 0] S1x1x128.size inb_S1x4x128_S1x1x128_0_2_0))
    (View.ld x1 (Rect.unit ![0, 3, 0] S1x1x128.size inb_S1x4x128_S1x1x128_0_3_0)) j
    = x1 (ix3 0 ⟨(j 0 : ℕ) / 128, by have := (j 0).isLt; simp at this; omega⟩ ⟨(j 0 : ℕ) % 128, by omega⟩) := by
  pointwise [k0_pay4]
  blk_point []

/-- The row scales of the block, copied along 256 columns. -/
def sB : FVec Ideal S512x256 .f32 := fun j =>
  x1 (ix3 0 ⟨(j 0 : ℕ) / 128, by have := (j 0).isLt; simp at this; omega⟩ ⟨(j 0 : ℕ) % 128, by omega⟩)

theorem pay4_eq : k0_pay4 (F := Ideal)
    (View.ld x1 (Rect.unit ![0, 0, 0] S1x1x128.size inb_S1x4x128_S1x1x128_0_0_0))
    (View.ld x1 (Rect.unit ![0, 1, 0] S1x1x128.size inb_S1x4x128_S1x1x128_0_1_0))
    (View.ld x1 (Rect.unit ![0, 2, 0] S1x1x128.size inb_S1x4x128_S1x1x128_0_2_0))
    (View.ld x1 (Rect.unit ![0, 3, 0] S1x1x128.size inb_S1x4x128_S1x1x128_0_3_0)) = sB x1 := funext (pay4_at x1)

theorem hz : (![0, 0] : Fin 2 → Nat) = fun _ => 0 := funext fun a => by fin_cases a <;> rfl

/-- Column block 0: columns 0 to 255. -/
theorem block0 (j : S512x256.Idx) : k0_pay8 (F := Ideal) (k0_pay6 x0 (View.ld x1 (Rect.unit ![0, 0, 0] S1x1x128.size inb_S1x4x128_S1x1x128_0_0_0)) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x2 (Rect.unit ![0, 0] S3072x256.size inb_S3072x1536_S3072x256_0_0)) (View.ld x4 (Rect.unit ![0, 0] S1x256.size inb_S1x1536_S1x256_0_0))) (k0_pay7 x0 (View.ld x1 (Rect.unit ![0, 0, 0] S1x1x128.size inb_S1x4x128_S1x1x128_0_0_0)) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x3 (Rect.unit ![0, 0] S3072x256.size inb_S3072x1536_S3072x256_0_0))) (View.ld x5 (Rect.unit ![0, 0] S1x256.size inb_S1x1536_S1x256_0_0)) j
    = hB x0 x1 x2 x3 x4 x5 (j 0) ⟨0 + (j 1 : ℕ), by have := (j 1).isLt; simp at this; omega⟩ := by
  unfold k0_pay6 k0_pay7
  rw [pay4_eq]
  pointwise [k0_pay8, hB, hval, sB]

/-- Column block 1: columns 256 to 511. -/
theorem block1 (j : S512x256.Idx) : k0_pay10 (F := Ideal) x0 (sB x1) (View.ld x2 (Rect.unit ![0, 256] S3072x256.size inb_S3072x1536_S3072x256_0_256)) (View.ld x4 (Rect.unit ![0, 256] S1x256.size inb_S1x1536_S1x256_0_256)) (View.ld x3 (Rect.unit ![0, 256] S3072x256.size inb_S3072x1536_S3072x256_0_256)) (View.ld x5 (Rect.unit ![0, 256] S1x256.size inb_S1x1536_S1x256_0_256)) j
    = hB x0 x1 x2 x3 x4 x5 (j 0) ⟨256 + (j 1 : ℕ), by have := (j 1).isLt; simp at this; omega⟩ := by
  pointwise [k0_pay10, hB, hval, sB]

/-- Column block 2: columns 512 to 767. -/
theorem block2 (j : S512x256.Idx) : k0_pay14 (F := Ideal) x0 (sB x1) (k0_pay13 x0 (sB x1) (View.ld x2 (Rect.unit ![0, 512] S3072x256.size inb_S3072x1536_S3072x256_0_512))) (View.ld x4 (Rect.unit ![0, 512] S1x256.size inb_S1x1536_S1x256_0_512)) (View.ld x3 (Rect.unit ![0, 512] S3072x256.size inb_S3072x1536_S3072x256_0_512)) (View.ld x5 (Rect.unit ![0, 512] S1x256.size inb_S1x1536_S1x256_0_512)) j
    = hB x0 x1 x2 x3 x4 x5 (j 0) ⟨512 + (j 1 : ℕ), by have := (j 1).isLt; simp at this; omega⟩ := by
  pointwise [k0_pay14, k0_pay13, hB, hval, sB]

/-- Column block 3: columns 768 to 1023. -/
theorem block3 (j : S512x256.Idx) : k0_pay17 (F := Ideal) x0 (sB x1) (View.ld x2 (Rect.unit ![0, 768] S3072x256.size inb_S3072x1536_S3072x256_0_768)) (View.ld x4 (Rect.unit ![0, 768] S1x256.size inb_S1x1536_S1x256_0_768)) (View.ld x3 (Rect.unit ![0, 768] S3072x256.size inb_S3072x1536_S3072x256_0_768)) (View.ld x5 (Rect.unit ![0, 768] S1x256.size inb_S1x1536_S1x256_0_768)) j
    = hB x0 x1 x2 x3 x4 x5 (j 0) ⟨768 + (j 1 : ℕ), by have := (j 1).isLt; simp at this; omega⟩ := by
  pointwise [k0_pay17, hB, hval, sB]

/-- Column block 4: columns 1024 to 1279. -/
theorem block4 (j : S512x256.Idx) : k0_pay20 (F := Ideal) x0 (sB x1) (View.ld x2 (Rect.unit ![0, 1024] S3072x256.size inb_S3072x1536_S3072x256_0_1024)) (View.ld x4 (Rect.unit ![0, 1024] S1x256.size inb_S1x1536_S1x256_0_1024)) (View.ld x3 (Rect.unit ![0, 1024] S3072x256.size inb_S3072x1536_S3072x256_0_1024)) (View.ld x5 (Rect.unit ![0, 1024] S1x256.size inb_S1x1536_S1x256_0_1024)) j
    = hB x0 x1 x2 x3 x4 x5 (j 0) ⟨1024 + (j 1 : ℕ), by have := (j 1).isLt; simp at this; omega⟩ := by
  pointwise [k0_pay20, hB, hval, sB]

/-- Column block 5: columns 1280 to 1535. -/
theorem block5 (j : S512x256.Idx) : k0_pay25 (F := Ideal) (k0_pay23 x0 (sB x1) (View.ld x2 (Rect.unit ![0, 1280] S3072x256.size inb_S3072x1536_S3072x256_0_1280)) (View.ld x4 (Rect.unit ![0, 1280] S1x256.size inb_S1x1536_S1x256_0_1280))) (k0_pay24 x0 (sB x1) (View.ld x3 (Rect.unit ![0, 1280] S3072x256.size inb_S3072x1536_S3072x256_0_1280))) (View.ld x5 (Rect.unit ![0, 1280] S1x256.size inb_S1x1536_S1x256_0_1280)) j
    = hB x0 x1 x2 x3 x4 x5 (j 0) ⟨1280 + (j 1 : ℕ), by have := (j 1).isLt; simp at this; omega⟩ := by
  pointwise [k0_pay25, k0_pay23, k0_pay24, hB, hval, sB]

/-- The scratch buffer after the six blocks. -/
theorem scratch_at (j : S512x1536.Idx) : View.canon (kernelRun0_A.sl.HS0_6 c arg1 harg1 arg2 harg2 arg3 harg3 arg4 harg4 arg5 harg5 arg6 harg6 x0 x1 x2 x3 x4 x5) j = hB x0 x1 x2 x3 x4 x5 (j 0) (j 1) := by
  refine View.canon_apply_of_pieces (fun j => hB x0 x1 x2 x3 x4 x5 (j 0) (j 1)) _ ?_ j
    (View.cover_of_tiledL (kernelRun0_A.sl.HS0_6 c arg1 harg1 arg2 harg2 arg3 harg3 arg4 harg4 arg5 harg5 arg6 harg6 x0 x1 x2 x3 x4 x5) S512x256.size (by sl_kernel_rfl) j)
  intro pc hpc
  simp only [kernelRun0_A.sl.HS0_6, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, View.readAt_eq_ld, harg1.read_unread,
    harg2.read_unread, harg3.read_unread, harg4.read_unread, harg5.read_unread, harg6.read_unread, pay4_eq] at hpc
  erw [View.ld_unit_zero hz] at hpc
  simp only [List.mem_cons, List.not_mem_nil, or_false] at hpc
  rcases hpc with rfl | rfl | rfl | rfl | rfl | rfl <;> intro x
  · show k0_pay26 _ _ _ x = _
    unfold k0_pay26
    rw [Rows.cast_self, block5]
    exact congrArg₂ (hB x0 x1 x2 x3 x4 x5) (Fin.ext (by show _ = 0 + 1 * (x 0 : ℕ); omega)) (Fin.ext (by show _ = 1280 + 1 * (x 1 : ℕ); show 1280 + (x 1 : ℕ) = _; omega))
  · show k0_pay21 _ _ _ _ _ _ x = _
    unfold k0_pay21
    rw [Rows.cast_self, block4]
    exact congrArg₂ (hB x0 x1 x2 x3 x4 x5) (Fin.ext (by show _ = 0 + 1 * (x 0 : ℕ); omega)) (Fin.ext (by show _ = 1024 + 1 * (x 1 : ℕ); show 1024 + (x 1 : ℕ) = _; omega))
  · show k0_pay18 _ _ _ _ _ _ x = _
    unfold k0_pay18
    rw [Rows.cast_self, block3]
    exact congrArg₂ (hB x0 x1 x2 x3 x4 x5) (Fin.ext (by show _ = 0 + 1 * (x 0 : ℕ); omega)) (Fin.ext (by show _ = 768 + 1 * (x 1 : ℕ); show 768 + (x 1 : ℕ) = _; omega))
  · show k0_pay15 _ _ _ _ _ _ x = _
    unfold k0_pay15
    rw [Rows.cast_self, block2]
    exact congrArg₂ (hB x0 x1 x2 x3 x4 x5) (Fin.ext (by show _ = 0 + 1 * (x 0 : ℕ); omega)) (Fin.ext (by show _ = 512 + 1 * (x 1 : ℕ); show 512 + (x 1 : ℕ) = _; omega))
  · show k0_pay11 _ _ _ _ _ _ x = _
    unfold k0_pay11
    rw [Rows.cast_self, block1]
    exact congrArg₂ (hB x0 x1 x2 x3 x4 x5) (Fin.ext (by show _ = 0 + 1 * (x 0 : ℕ); omega)) (Fin.ext (by show _ = 256 + 1 * (x 1 : ℕ); show 256 + (x 1 : ℕ) = _; omega))
  · show k0_pay9 _ _ _ x = _
    unfold k0_pay9
    rw [Rows.cast_self, block0]
    exact congrArg₂ (hB x0 x1 x2 x3 x4 x5) (Fin.ext (by show _ = 0 + 1 * (x 0 : ℕ); omega)) (Fin.ext (by show _ = 0 + 1 * (x 1 : ℕ); show 0 + (x 1 : ℕ) = _; omega))

/-- The row maximum times the constant for 1/448. -/
theorem amax_at (j : S512x1.Idx) : k0_pay27 (F := Ideal) (k0_pay22 x0 (sB x1) (k0_pay16 x0 (sB x1) (k0_pay12 x0 (sB x1) k0_pay5 (k0_pay6 x0 (View.ld x1 (Rect.unit ![0, 0, 0] S1x1x128.size inb_S1x4x128_S1x1x128_0_0_0)) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x2 (Rect.unit ![0, 0] S3072x256.size inb_S3072x1536_S3072x256_0_0)) (View.ld x4 (Rect.unit ![0, 0] S1x256.size inb_S1x1536_S1x256_0_0))) (k0_pay7 x0 (View.ld x1 (Rect.unit ![0, 0, 0] S1x1x128.size inb_S1x4x128_S1x1x128_0_0_0)) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x3 (Rect.unit ![0, 0] S3072x256.size inb_S3072x1536_S3072x256_0_0))) (View.ld x5 (Rect.unit ![0, 0] S1x256.size inb_S1x1536_S1x256_0_0)) (View.ld x2 (Rect.unit ![0, 256] S3072x256.size inb_S3072x1536_S3072x256_0_256)) (View.ld x4 (Rect.unit ![0, 256] S1x256.size inb_S1x1536_S1x256_0_256)) (View.ld x3 (Rect.unit ![0, 256] S3072x256.size inb_S3072x1536_S3072x256_0_256)) (View.ld x5 (Rect.unit ![0, 256] S1x256.size inb_S1x1536_S1x256_0_256))) (k0_pay13 x0 (sB x1) (View.ld x2 (Rect.unit ![0, 512] S3072x256.size inb_S3072x1536_S3072x256_0_512))) (View.ld x4 (Rect.unit ![0, 512] S1x256.size inb_S1x1536_S1x256_0_512)) (View.ld x3 (Rect.unit ![0, 512] S3072x256.size inb_S3072x1536_S3072x256_0_512)) (View.ld x5 (Rect.unit ![0, 512] S1x256.size inb_S1x1536_S1x256_0_512))) (k0_pay19 x0 (sB x1) (View.ld x2 (Rect.unit ![0, 768] S3072x256.size inb_S3072x1536_S3072x256_0_768)) (View.ld x4 (Rect.unit ![0, 768] S1x256.size inb_S1x1536_S1x256_0_768)) (View.ld x3 (Rect.unit ![0, 768] S3072x256.size inb_S3072x1536_S3072x256_0_768)) (View.ld x5 (Rect.unit ![0, 768] S1x256.size inb_S1x1536_S1x256_0_768))) (View.ld x2 (Rect.unit ![0, 1024] S3072x256.size inb_S3072x1536_S3072x256_0_1024)) (View.ld x4 (Rect.unit ![0, 1024] S1x256.size inb_S1x1536_S1x256_0_1024)) (View.ld x3 (Rect.unit ![0, 1024] S3072x256.size inb_S3072x1536_S3072x256_0_1024)) (View.ld x5 (Rect.unit ![0, 1024] S1x256.size inb_S1x1536_S1x256_0_1024))) (k0_pay23 x0 (sB x1) (View.ld x2 (Rect.unit ![0, 1280] S3072x256.size inb_S3072x1536_S3072x256_0_1280)) (View.ld x4 (Rect.unit ![0, 1280] S1x256.size inb_S1x1536_S1x256_0_1280))) (k0_pay24 x0 (sB x1) (View.ld x3 (Rect.unit ![0, 1280] S3072x256.size inb_S3072x1536_S3072x256_0_1280))) (View.ld x5 (Rect.unit ![0, 1280] S1x256.size inb_S1x1536_S1x256_0_1280)) j
    = (Finset.univ.fold max ⊥ fun f => mag (hB x0 x1 x2 x3 x4 x5 (j 0) f)) * Ideal.ofBits .f32 0x3B124925#32 := by
  unfold k0_pay27
  refine (Rows.rowMax_col _ _ _ _ _ _ j).trans (congrArg (· * Ideal.ofBits .f32 0x3B124925#32) ?_)
  refine amax_fold (fun f => mag (hB x0 x1 x2 x3 x4 x5 (j 0) f)) (fun f => mag_nonneg _) _ fun l => ?_
  pointwise [k0_pay22, k0_pay19, k0_pay16, k0_pay12, k0_pay5]
  simp only [block0, block1, block2, block3, block4, block5]
  refine congrArg₂ max (congrArg₂ max (congrArg₂ max (congrArg₂ max (congrArg₂ max (congrArg₂ max rfl (congrArg₂ max ?_ ?_)) (congrArg₂ max ?_ ?_))
    (congrArg₂ max ?_ ?_)) (congrArg₂ max ?_ ?_)) (congrArg₂ max ?_ ?_)) (congrArg₂ max ?_ ?_)
  · exact congrArg (fun f => mag (hB x0 x1 x2 x3 x4 x5 (j 0) f)) (Fin.ext (by show 0 + (l : ℕ) = 128 * 0 + (l : ℕ); omega))
  · exact congrArg (fun f => mag (hB x0 x1 x2 x3 x4 x5 (j 0) f)) (Fin.ext (by show 0 + (128 + (l : ℕ)) = 128 * 1 + (l : ℕ); omega))
  · exact congrArg (fun f => mag (hB x0 x1 x2 x3 x4 x5 (j 0) f)) (Fin.ext (by show 256 + (l : ℕ) = 128 * 2 + (l : ℕ); omega))
  · exact congrArg (fun f => mag (hB x0 x1 x2 x3 x4 x5 (j 0) f)) (Fin.ext (by show 256 + (128 + (l : ℕ)) = 128 * 3 + (l : ℕ); omega))
  · exact congrArg (fun f => mag (hB x0 x1 x2 x3 x4 x5 (j 0) f)) (Fin.ext (by show 512 + (l : ℕ) = 128 * 4 + (l : ℕ); omega))
  · exact congrArg (fun f => mag (hB x0 x1 x2 x3 x4 x5 (j 0) f)) (Fin.ext (by show 512 + (128 + (l : ℕ)) = 128 * 5 + (l : ℕ); omega))
  · exact congrArg (fun f => mag (hB x0 x1 x2 x3 x4 x5 (j 0) f)) (Fin.ext (by show 768 + (l : ℕ) = 128 * 6 + (l : ℕ); omega))
  · exact congrArg (fun f => mag (hB x0 x1 x2 x3 x4 x5 (j 0) f)) (Fin.ext (by show 768 + (128 + (l : ℕ)) = 128 * 7 + (l : ℕ); omega))
  · exact congrArg (fun f => mag (hB x0 x1 x2 x3 x4 x5 (j 0) f)) (Fin.ext (by show 1024 + (l : ℕ) = 128 * 8 + (l : ℕ); omega))
  · exact congrArg (fun f => mag (hB x0 x1 x2 x3 x4 x5 (j 0) f)) (Fin.ext (by show 1024 + (128 + (l : ℕ)) = 128 * 9 + (l : ℕ); omega))
  · exact congrArg (fun f => mag (hB x0 x1 x2 x3 x4 x5 (j 0) f)) (Fin.ext (by show 1280 + (l : ℕ) = 128 * 10 + (l : ℕ); omega))
  · exact congrArg (fun f => mag (hB x0 x1 x2 x3 x4 x5 (j 0) f)) (Fin.ext (by show 1280 + (128 + (l : ℕ)) = 128 * 11 + (l : ℕ); omega))

/-- One rung of the ladder, row by row. -/
theorem rung (v : FVec Ideal S512x1 .f32) (b : IVec S512x1 32) (k : BitVec 32) :
    select (cmpf .oge v (bitcastToFloat .f32 (shli (addi b (broadcast S512x1 k)) (broadcast S512x1 23#32)))) (addi b (broadcast S512x1 k)) b
    = fun j => Pow2.step (v j) k (b j) := rfl

/-- The comparison ladder is `Pow2.field`, row by row. -/
theorem ladder_at (a : FVec Ideal S512x128 .f32) (b d : FVec Ideal S512x256 .f32) (e : Vec Ideal S1x256 .f32) (j : S512x1.Idx) :
    k0_pay29 (k0_pay27 a b d e) (k0_pay28 a b d e) j = Pow2.field (k0_pay27 a b d e j) := by
  unfold k0_pay29 k0_pay28
  generalize k0_pay27 a b d e = v
  dsimp only
  rw [rung v (broadcast S512x1 0#32) 128#32]
  generalize h1 : (fun j => Pow2.step (v j) 128#32 (broadcast S512x1 0#32 j)) = b1
  rw [rung v b1 64#32]
  generalize h2 : (fun j => Pow2.step (v j) 64#32 (b1 j)) = b2
  rw [rung v b2 32#32]
  generalize h3 : (fun j => Pow2.step (v j) 32#32 (b2 j)) = b3
  rw [rung v b3 16#32]
  generalize h4 : (fun j => Pow2.step (v j) 16#32 (b3 j)) = b4
  rw [rung v b4 8#32]
  generalize h5 : (fun j => Pow2.step (v j) 8#32 (b4 j)) = b5
  rw [rung v b5 4#32]
  generalize h6 : (fun j => Pow2.step (v j) 4#32 (b5 j)) = b6
  rw [rung v b6 2#32]
  generalize h7 : (fun j => Pow2.step (v j) 2#32 (b6 j)) = b7
  rw [rung v b7 1#32]
  subst h1 h2 h3 h4 h5 h6 h7
  unfold Pow2.field
  rfl

/-- The field of a row's scale. -/
theorem field_at (j : S512x1.Idx) : kernelRun0_A.sl.r_15 c arg1 harg1 arg2 harg2 arg3 harg3 arg4 harg4 arg5 harg5 arg6 harg6 x0 x1 x2 x3 x4 x5 j
    = Pow2.field ((Finset.univ.fold max ⊥ fun f => mag (hB x0 x1 x2 x3 x4 x5 (j 0) f)) * Ideal.ofBits .f32 0x3B124925#32) := by
  rw [← amax_at, ← ladder_at]
  simp only [kernelRun0_A.sl.HS0_6, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, View.readAt_eq_ld, harg1.read_unread,
    harg2.read_unread, harg3.read_unread, harg4.read_unread, harg5.read_unread, harg6.read_unread, pay4_eq]
  erw [View.ld_unit_zero hz]

/-- A row's scale. -/
theorem scale_at (j : S512x1.Idx) : k0_pay30 (F := Ideal) (kernelRun0_A.sl.r_15 c arg1 harg1 arg2 harg2 arg3 harg3 arg4 harg4 arg5 harg5 arg6 harg6 x0 x1 x2 x3 x4 x5) j = scaleRow (hB x0 x1 x2 x3 x4 x5 (j 0)) := by
  unfold scaleRow
  rw [← Pow2.ladderScale_eq, Pow2.ladderScale, ← field_at c arg1 harg1 arg2 harg2 arg3 harg3 arg4 harg4 arg5 harg5 arg6 harg6 x0 x1 x2 x3 x4 x5 j]
  rfl

/-- The codes a grid point writes. -/
theorem out6 (y : S512x1536.Idx) : out0_A_6 c i arg1 harg1 arg2 harg2 arg3 harg3 arg4 harg4 arg5 harg5 arg6 harg6 arg7 harg7 arg8 harg8 arg9 harg9 x0 x1 x2 x3 x4 x5 y = codeRow (hB x0 x1 x2 x3 x4 x5 (y 0)) (y 1) := by
  unfold out0_A_6
  rw [View.read_writes_junk_eq_canon]
  unfold kernelRun0_A
  dsimp only
  rw [View.canon_unit_zero hz]
  have e : kernelRun0_A.sl.v255 c arg1 harg1 arg2 harg2 arg3 harg3 arg4 harg4 arg5 harg5 arg6 harg6 arg9 x0 x1 x2 x3 x4 x5 = fun j => hB x0 x1 x2 x3 x4 x5 (j 0) (j 1) := by
    unfold kernelRun0_A.sl.v255
    rw [View.readCov_eq_canon']
    funext j
    rw [scratch_at]
    exact congrArg₂ (hB x0 x1 x2 x3 x4 x5) (Fin.ext (by show 0 + 1 * (j 0 : ℕ) = (j 0 : ℕ); omega)) (Fin.ext (by show 0 + 1 * (j 1 : ℕ) = (j 1 : ℕ); omega))
  rw [e]
  pointwise [k0_pay31]
  rw [scale_at]
  unfold codeRow
  rfl

/-- The scale of the block's row `128 k + l`, at entry `(0, k, l)`. -/
def E7 : Vec Ideal S1x4x128 .f32 := fun y =>
  scaleRow (hB x0 x1 x2 x3 x4 x5 ⟨128 * (y 1 : ℕ) + (y 2 : ℕ), by have h1 := (y 1).isLt; have h2 := (y 2).isLt; simp at h1 h2; omega⟩)

/-- The scales a grid point writes. -/
theorem out7 (y : S1x4x128.Idx) : out0_A_7 c i arg1 harg1 arg2 harg2 arg3 harg3 arg4 harg4 arg5 harg5 arg6 harg6 arg7 harg7 arg8 harg8 arg9 harg9 x0 x1 x2 x3 x4 x5 y
    = E7 x0 x1 x2 x3 x4 x5 y := by
  unfold out0_A_7
  rw [View.read_writes_junk_eq_canon]
  unfold kernelRun0_A
  dsimp only
  refine View.canon_apply_of_pieces (E7 x0 x1 x2 x3 x4 x5) _ ?_ y ?_
  case refine_2 =>
    refine View.cover_of_tiledL (s := S1x4x128) _ S1x1x128.size ?_ y
    sl_kernel_rfl
  intro pc hpc
  simp only [List.mem_cons, List.not_mem_nil, or_false] at hpc
  rcases hpc with rfl | rfl | rfl | rfl <;> intro x
  · have h1 : (x 1 : ℕ) < 1 := (x 1).isLt
    unfold kernelRun0_A.sl.r_16
    pointwise [k0_pay3]
    refine (scale_at c arg1 harg1 arg2 harg2 arg3 harg3 arg4 harg4 arg5 harg5 arg6 harg6 x0 x1 x2 x3 x4 x5 _).trans (congrArg (fun r => scaleRow (hB x0 x1 x2 x3 x4 x5 r)) (Fin.ext ?_))
    show 384 + (x 2 : ℕ) = 128 * (3 + 1 * (x 1 : ℕ)) + (0 + 1 * (x 2 : ℕ))
    omega
  · have h1 : (x 1 : ℕ) < 1 := (x 1).isLt
    unfold kernelRun0_A.sl.r_16
    pointwise [k0_pay2]
    refine (scale_at c arg1 harg1 arg2 harg2 arg3 harg3 arg4 harg4 arg5 harg5 arg6 harg6 x0 x1 x2 x3 x4 x5 _).trans (congrArg (fun r => scaleRow (hB x0 x1 x2 x3 x4 x5 r)) (Fin.ext ?_))
    show 256 + (x 2 : ℕ) = 128 * (2 + 1 * (x 1 : ℕ)) + (0 + 1 * (x 2 : ℕ))
    omega
  · have h1 : (x 1 : ℕ) < 1 := (x 1).isLt
    unfold kernelRun0_A.sl.r_17
    pointwise [k0_pay1, k0_pay33]
    refine (scale_at c arg1 harg1 arg2 harg2 arg3 harg3 arg4 harg4 arg5 harg5 arg6 harg6 x0 x1 x2 x3 x4 x5 _).trans (congrArg (fun r => scaleRow (hB x0 x1 x2 x3 x4 x5 r)) (Fin.ext ?_))
    show 128 + (x 2 : ℕ) = 128 * (1 + 1 * (x 1 : ℕ)) + (0 + 1 * (x 2 : ℕ))
    omega
  · have h1 : (x 1 : ℕ) < 1 := (x 1).isLt
    pointwise [k0_pay32]
    refine (scale_at c arg1 harg1 arg2 harg2 arg3 harg3 arg4 harg4 arg5 harg5 arg6 harg6 x0 x1 x2 x3 x4 x5 _).trans (congrArg (fun r => scaleRow (hB x0 x1 x2 x3 x4 x5 r)) (Fin.ext ?_))
    show (x 2 : ℕ) = 128 * (0 + 1 * (x 1 : ℕ)) + (0 + 1 * (x 2 : ℕ))
    omega

end Cert.Proof.SharedBlock

end
-- ==== Proof.SharedValue.lean ====
/- THE RUN OF `shared_up`: its two results are `SharedArrays.codes` and `SharedArrays.scales` of its arguments. Grid point `t`
   writes rows `512 t` to `512 t + 511`. -/
module

public import proofs.«01_k».proof.Proof.SharedArrays
public import proofs.«01_k».proof.Proof.SharedBlock
public import Idealize.ShloMosaic.Lib.Pipeline.ValueKit

@[expose] public section

set_option maxRecDepth 16384

noncomputable section

namespace Cert.Proof.SharedValue

open Cert.SharedIdeal Cert.SharedIdeal.Gen Cert.Proof.Spec Cert.Proof.SharedArrays Cert.Proof.SharedBlock Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![t.val, 0, 0] ∧ win0_2.index t = ![0, 0] ∧ win0_3.index t = ![0, 0]
    ∧ win0_4.index t = ![0, 0] ∧ win0_5.index t = ![0, 0] ∧ win0_6.index t = ![t.val, 0] ∧ win0_7.index t = ![t.val, 0, 0] ∧ t.val < 48 :=
  (by decide +kernel : ∀ t : Fin grid0.N, _)

theorem blk2 (c : Dev nD) (t : Fin cfg0.N) : iblk m c 2 t = m ((c : Thread nD τ).loc main_arg2) := by blk_ext! [iblk, V, idx t]
theorem blk3 (c : Dev nD) (t : Fin cfg0.N) : iblk m c 3 t = m ((c : Thread nD τ).loc main_arg3) := by blk_ext! [iblk, V, idx t]
theorem blk4 (c : Dev nD) (t : Fin cfg0.N) : iblk m c 4 t = m ((c : Thread nD τ).loc main_arg4) := by blk_ext! [iblk, V, idx t]
theorem blk5 (c : Dev nD) (t : Fin cfg0.N) : iblk m c 5 t = m ((c : Thread nD τ).loc main_arg5) := by blk_ext! [iblk, V, idx t]

theorem blk0 (c : Dev nD) (t : Fin cfg0.N) (R : Fin 24576) (r : Fin 512) (k : Fin 3072) (hR : (R : ℕ) = 512 * t.val + r) :
    (show FVec Ideal S512x3072 .fp8e4m3 from iblk m c 0 t) (ix2 r k)
    = (show FVec Ideal S24576x3072 .fp8e4m3 from m ((c : Thread nD τ).loc main_arg0)) (ix2 R k) := by
  blk_ext [iblk, V, idx t]

theorem blk1 (c : Dev nD) (t : Fin cfg0.N) (R : Fin 24576) (r : Fin 512) (hR : (R : ℕ) = 512 * t.val + r) :
    (show FVec Ideal S1x4x128 .f32 from iblk m c 1 t) (ix3 0 ⟨(r : ℕ) / 128, by omega⟩ ⟨(r : ℕ) % 128, by omega⟩)
    = (show FVec Ideal S48x4x128 .f32 from m ((c : Thread nD τ).loc main_arg1))
      (ix3 ⟨(R : ℕ) / 512, by omega⟩ ⟨(R : ℕ) / 128 % 4, by omega⟩ ⟨(R : ℕ) % 128, by omega⟩) := by
  have hr : (r : ℕ) < 512 := r.isLt
  have e0 : (R : ℕ) / 512 = t.val := by omega
  have e1 : (R : ℕ) / 128 % 4 = (r : ℕ) / 128 := by omega
  have e2 : (R : ℕ) % 128 = (r : ℕ) % 128 := by omega
  blk_ext [iblk, V, idx t]

/-- Row `r` of point `t`'s block is row `512 t + r`. -/
theorem rows (c : Dev nD) (t : Fin cfg0.N) (R : Fin 24576) (r : Fin 512) (hR : (R : ℕ) = 512 * t.val + r) :
    hB (iblk m c 0 t) (iblk m c 1 t) (iblk m c 2 t) (iblk m c 3 t) (iblk m c 4 t) (iblk m c 5 t) r
    = hA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) R := by
  funext f
  rw [blk2, blk3, blk4, blk5]
  exact congrArg₂ (fun x s => hval x _ _ s _ _) (funext fun k => blk0 m c t R r k hR) (blk1 m c t R r hR)

theorem outs6 (c : Dev nD) (t : Fin cfg0.N) (y : S512x1536.Idx) : (outsAt0 m c t).1 y = codeRow (hB (iblk m c 0 t) (iblk m c 1 t) (iblk m c 2 t) (iblk m c 3 t) (iblk m c 4 t) (iblk m c 5 t) (y 0)) (y 1) := by
  unfold outsAt0
  dsimp only
  exact out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) y

theorem outs7 (c : Dev nD) (t : Fin cfg0.N) (y : S1x4x128.Idx) : (outsAt0 m c t).2 y = E7 (iblk m c 0 t) (iblk m c 1 t) (iblk m c 2 t) (iblk m c 3 t) (iblk m c 4 t) (iblk m c 5 t) y := by
  unfold outsAt0
  dsimp only
  exact out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (iblk m c 5 t) y

theorem final6 (c : Dev nD) : (dats m 0 c).arrAt 6 (cfgs 0).N
    = codes (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  refine (outs6 m c t y).trans ?_
  have h0 : ((((cfg0.win 6).blk t).view.emb y) 0 : ℕ) = 512 * t.val + (y 0 : ℕ) := by
    blk_simp [idx t]
    try omega
  have h1 : ((((cfg0.win 6).blk t).view.emb y) 1 : ℕ) = (y 1 : ℕ) := by blk_simp [idx t]
  exact congrArg₂ codeRow (rows m c t _ _ h0) (Fin.ext h1.symm)

theorem final7 (c : Dev nD) : (dats m 0 c).arrAt 7 (cfgs 0).N
    = scales (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  refine (outs7 m c t y).trans ?_
  refine congrArg scaleRow (rows m c t _ _ ?_)
  have h0 : ((((cfg0.win 7).blk t).view.emb y) 0 : ℕ) = t.val := by
    have hy : (y 0 : ℕ) < 1 := (y 0).isLt
    blk_simp [idx t]
    try omega
  have h1 : ((((cfg0.win 7).blk t).view.emb y) 1 : ℕ) = (y 1 : ℕ) := by blk_simp [idx t]
  have h2 : ((((cfg0.win 7).blk t).view.emb y) 2 : ℕ) = (y 2 : ℕ) := by blk_simp [idx t]
  have e : ∀ a b d t' p q : ℕ, a = t' → b = p → d = q → 512 * a + 128 * b + d = 512 * t' + (128 * p + q) := by omega
  exact e _ _ _ _ _ _ h0 h1 h2

end Cert.Proof.SharedValue

end
-- ==== Proof.Least.lean ====
/- THE LEAST POWER OF TWO ABOVE EACH ENTRY OF A COLUMN, written as a row minimum over the 253 candidate powers, is
   `Pow2.leastPower`, row by row; and the quantiser's scale chosen from it is `Pow2.plainScale`. -/
module

public import proofs.«01_k».proof.Proof.Pow2
public import proofs.«01_k».proof.Proof.Rows

@[expose] public section

noncomputable section

namespace Cert.Proof.Least

open Idealize.ShloMosaic Idealize.ShloMosaic.TcCoe

variable {n : ℕ}

/-- The candidate powers. -/
def powers (hi : (⟨2, ![1, 253]⟩ : Shape).Iotas .tc 32 [1]) : FVec Ideal ⟨2, ![1, 253]⟩ .f32 := exp2 (sitofp .f32 (subi (iota .tc ⟨2, ![1, 253]⟩ 32 [1] hi) (broadcast ⟨2, ![1, 253]⟩ 125#32)))

theorem bits : ∀ c : Fin 253, (IntOp.subi (BitVec.ofNat 32 c) 125#32).toInt = (c : ℤ) - 125 := by decide +kernel

/-- Lane `c` holds `2 ^ (c - 125)`. -/
theorem powers_at (hi) (c : Fin 253) : powers hi (ix2 0 c) = Ideal.exp2 (((c : ℕ) : ℝ) - 125 : ℝ) := by
  pointwise [powers]
  show Ideal.exp2 (((IntOp.subi (BitVec.ofNat 32 c) 125#32).toInt : ℝ) : EReal) = _
  rw [bits]
  push_cast
  rfl

/-- A column copied along the lanes. -/
theorem col_bcast {m : ℕ} (u : FVec Ideal ⟨2, ![n, 1]⟩ .f32) (hb : (⟨2, ![n, 1]⟩ : Shape).Broadcasts ⟨2, ![n, m]⟩) (r : Fin n) (f : Fin m) :
    broadcastTo ⟨2, ![n, m]⟩ u hb (ix2 r f) = u (ix2 r 0) := by
  unfold broadcastTo
  refine congrArg u (funext fun a => ?_)
  match a with
  | ⟨0, _⟩ =>
    apply Fin.ext
    split
    · rename_i h1
      have hr : (r : ℕ) < n := r.isLt
      have hn : n = 1 := h1
      show 0 = (r : ℕ)
      omega
    · rfl
  | ⟨1, _⟩ => exact Subsingleton.elim (α := Fin 1) _ _

/-- The scale chosen from it. -/
theorem scale_at (v w : FVec Ideal ⟨2, ![n, 1]⟩ .f32) (i : (⟨2, ![n, 1]⟩ : Shape).Idx) :
    select (ori (cmpf .olt v (broadcast ⟨2, ![n, 1]⟩ (Scalar.ofBits (F := Ideal) .f32 0x00800000#32)))
      (cmpf .oeq v (broadcast ⟨2, ![n, 1]⟩ (Scalar.ofBits (F := Ideal) .f32 0x7F800000#32))))
      (broadcast ⟨2, ![n, 1]⟩ (Scalar.ofBits (F := Ideal) .f32 0x3F800000#32)) w i
    = if v i < Pow2.pw 1 ∨ v i = ⊤ then 1 else w i := by
  pointwise []
  rw [Rows.ofBits_top, show (8388608#32 : BitVec 32) = Pow2.word 1 from by decide]
  change Scalar.select (IntOp.ori (BitVec.ofBool (decide (v i < Pow2.pw 1))) (BitVec.ofBool (decide (v i = ⊤)))) 1 (w i) = _
  by_cases h1 : v i < Pow2.pw 1 <;> by_cases h2 : v i = ⊤ <;> simp [h1, h2, Scalar.select, IntOp.ori]

/-- The least power above an entry. -/
theorem least_at (u : FVec Ideal ⟨2, ![n, 1]⟩ .f32) (hi hb hb' hb2 hc) (h : (⟨2, ![n, 253]⟩ : Shape).Reduces [1] ⟨1, ![n]⟩) (hφ) (hacc)
    (hs : (⟨1, ![n]⟩ : Shape).ShapeCasts ⟨2, ![n, 1]⟩) (i : (⟨2, ![n, 1]⟩ : Shape).Idx) :
    shapeCast ⟨2, ![n, 1]⟩ (multiReduction .minimumf [1] ⟨1, ![n]⟩ (select (cmpf .ogt (broadcastTo ⟨2, ![n, 253]⟩ (powers hi) hb) (broadcastTo ⟨2, ![n, 253]⟩ u hb'))
      (broadcastTo ⟨2, ![n, 253]⟩ (shapeCast ⟨2, ![1, 253]⟩ (powers hi) hc) hb2) (broadcast ⟨2, ![n, 253]⟩ (Scalar.ofBits (F := Ideal) .f32 0x7F800000#32))) 0x7F800000#32 h hφ hacc) hs i
    = Pow2.leastPower (u (ix2 (i 0) 0)) := by
  refine (Rows.rowMin_col _ _ _ _ _ i).trans ?_
  unfold Pow2.leastPower
  refine congrArg (fun g : Fin 253 → EReal => Finset.univ.fold min ⊤ g) (funext fun f => ?_)
  have e : broadcastTo ⟨2, ![n, 253]⟩ u hb' (ix2 (i 0) f) = u (ix2 (i 0) 0) := col_bcast u hb' (i 0) f
  pointwise []
  rw [powers_at, Rows.ofBits_top]
  refine if_congr (Iff.of_eq (congrArg (· < Ideal.exp2 (((f : ℕ) : ℝ) - 125 : ℝ)) e)) rfl rfl

/-- Division by the row's scale and clipping. -/
theorem clip_at {m : ℕ} (x : FVec Ideal ⟨2, ![n, m]⟩ .f32) (u : FVec Ideal ⟨2, ![n, 1]⟩ .f32) (hb) (hl) (i : (⟨2, ![n, m]⟩ : Shape).Idx) :
    truncf .fp8e4m3 (minimumf (broadcast ⟨2, ![n, m]⟩ (Scalar.ofBits (F := Ideal) .f32 0x43E00000#32)) (maximumf (broadcast ⟨2, ![n, m]⟩ (Scalar.ofBits (F := Ideal) .f32 0xC3E00000#32))
      (mulf x (broadcastTo ⟨2, ![n, m]⟩ (divf (broadcast ⟨2, ![n, 1]⟩ (Scalar.ofBits (F := Ideal) .f32 0x3F800000#32)) u) hb)))) hl i
    = min (Ideal.ofBits .f32 0x43E00000#32) (max (Ideal.ofBits .f32 0xC3E00000#32) (x i * Ideal.div 1 (u (ix2 (i 0) 0)))) := by
  have e := col_bcast (divf (broadcast ⟨2, ![n, 1]⟩ (Scalar.ofBits (F := Ideal) .f32 0x3F800000#32)) u) hb (i 0) (i 1)
  have e2 : ix2 (i 0) (i 1) = i := by funext a; match a with | ⟨0, _⟩ => rfl | ⟨1, _⟩ => rfl
  refine congrArg (fun z => min (Ideal.ofBits .f32 0x43E00000#32) (max (Ideal.ofBits .f32 0xC3E00000#32) (x i * z))) (((congrArg _ e2.symm).trans e).trans ?_)
  pointwise []

end Cert.Proof.Least

end
-- ==== Proof.SharedRef.lean ====
/- WHAT THE REFERENCE OF `shared_up` COMPUTES: its two results are `SharedArrays.codes` and `SharedArrays.scales` of its arguments. -/
module

public import proofs.«01_k».proof.Proof.SharedArrays
public import proofs.«01_k».proof.Proof.Least
public import proofs.«01_k».proof.Proof.Gen.SharedReferenceIdeal.Value
public import Idealize.ShloMosaic.Lib.Pipeline.ValueKit

@[expose] public section

set_option maxRecDepth 16384

noncomputable section

namespace Cert.Proof.SharedRef

open Cert.SharedReferenceIdeal Cert.SharedReferenceIdeal.Gen Cert.Proof.Spec Idealize.ShloMosaic Idealize.ShloMosaic.TcCoe Idealize.SL.Sem

variable (P0 : Vec Ideal S24576x3072 .fp8e4m3) (P1 : Vec Ideal S24576x1 .f32) (P2 : Vec Ideal S3072x1536 .fp8e4m3)
  (P3 : Vec Ideal S1x1536 .f32) (P4 : Vec Ideal S3072x1536 .fp8e4m3) (P5 : Vec Ideal S1x1536 .f32)

/-- The gated product of row `r` at column `f`, from the scales as a column. -/
def hC (r : Fin 24576) (f : Fin 1536) : EReal :=
  hval (fun k => P0 (ix2 r k)) (fun k => P2 (ix2 k f)) (fun k => P4 (ix2 k f)) (P1 (ix2 r 0)) (P3 (ix2 0 f)) (P5 (ix2 0 f))

theorem pay4_at (i : S24576x1536.Idx) : k0_pay4 (F := Ideal) P0 P1 P2 P3 P4 P5 i = hC P0 P1 P2 P3 P4 P5 (i 0) (i 1) := by
  pointwise [k0_pay4, hC, hval]

theorem pay5_at (i : S24576x1.Idx) : k0_pay5 (F := Ideal) P0 P1 P2 P3 P4 P5 i
    = (Finset.univ.fold max ⊥ fun f => mag (hC P0 P1 P2 P3 P4 P5 (i 0) f)) * Ideal.ofBits .f32 0x3B124925#32 := by
  unfold k0_pay5
  refine (Rows.rowMax_col _ _ _ _ _ _ i).trans (congrArg (· * Ideal.ofBits .f32 0x3B124925#32) ?_)
  refine congrArg (fun g : Fin 1536 → EReal => Finset.univ.fold max ⊥ g) (funext fun f => ?_)
  show mag (k0_pay4 P0 P1 P2 P3 P4 P5 _) = _
  rw [pay4_at]
  rfl

theorem pay6_at (i : S24576x1.Idx) : k0_pay6 (F := Ideal) P0 P1 P2 P3 P4 P5 i
    = Pow2.leastPower (k0_pay5 (F := Ideal) P0 P1 P2 P3 P4 P5 (ix2 (i 0) 0)) := by
  unfold k0_pay6
  generalize k0_pay5 (F := Ideal) P0 P1 P2 P3 P4 P5 = u
  exact Least.least_at u _ _ _ _ _ _ _ _ _ i

theorem pay1_at (i : S24576x1.Idx) : k0_pay1 (F := Ideal) (k0_pay5 P0 P1 P2 P3 P4 P5) (k0_pay6 P0 P1 P2 P3 P4 P5) k0_pay7 i
    = scaleRow (hC P0 P1 P2 P3 P4 P5 (i 0)) := by
  have h5 := pay5_at P0 P1 P2 P3 P4 P5 i
  have h6 := pay6_at P0 P1 P2 P3 P4 P5 i
  rw [pay5_at] at h6
  generalize k0_pay5 (F := Ideal) P0 P1 P2 P3 P4 P5 = u at h5 ⊢
  generalize k0_pay6 (F := Ideal) P0 P1 P2 P3 P4 P5 = w at h6 ⊢
  unfold k0_pay1 k0_pay7
  refine (Least.scale_at u w i).trans ?_
  rw [h5, h6]
  rfl

theorem pay2_at (i : S24576x1536.Idx) : k0_pay2 (F := Ideal) (k0_pay4 P0 P1 P2 P3 P4 P5) (k0_pay5 P0 P1 P2 P3 P4 P5) (k0_pay6 P0 P1 P2 P3 P4 P5) k0_pay7 i
    = codeRow (hC P0 P1 P2 P3 P4 P5 (i 0)) (i 1) := by
  have h1 := pay1_at P0 P1 P2 P3 P4 P5 (ix2 (i 0) 0)
  have h4 := pay4_at P0 P1 P2 P3 P4 P5 i
  generalize k0_pay4 (F := Ideal) P0 P1 P2 P3 P4 P5 = x at h4 ⊢
  generalize k0_pay5 (F := Ideal) P0 P1 P2 P3 P4 P5 = u at h1 ⊢
  generalize k0_pay6 (F := Ideal) P0 P1 P2 P3 P4 P5 = w at h1 ⊢
  generalize k0_pay7 (F := Ideal) = z at h1 ⊢
  unfold k0_pay2
  refine (Least.clip_at x (k0_pay1 u w z) _ _ i).trans ?_
  rw [h1, h4]
  unfold codeRow
  rfl

theorem pay3_at (i : S48x4x128.Idx) : k0_pay3 (F := Ideal) (k0_pay5 P0 P1 P2 P3 P4 P5) (k0_pay6 P0 P1 P2 P3 P4 P5) k0_pay7 i
    = scaleRow (hC P0 P1 P2 P3 P4 P5 ⟨512 * (i 0 : ℕ) + 128 * (i 1 : ℕ) + (i 2 : ℕ), by
        have h0 := (i 0).isLt; have h1 := (i 1).isLt; have h2 := (i 2).isLt; simp at h0 h1 h2; omega⟩) := by
  have h1 := fun j => pay1_at P0 P1 P2 P3 P4 P5 j
  generalize k0_pay5 (F := Ideal) P0 P1 P2 P3 P4 P5 = u at h1 ⊢
  generalize k0_pay6 (F := Ideal) P0 P1 P2 P3 P4 P5 = w at h1 ⊢
  generalize k0_pay7 (F := Ideal) = z at h1 ⊢
  pointwise [k0_pay3]
  rw [h1]
  refine congrArg (fun r => scaleRow (hC P0 P1 P2 P3 P4 P5 r)) (Fin.ext ?_)
  show (i 0 : ℕ) * 512 + (i 1 : ℕ) * 128 + (i 2 : ℕ) = 512 * (i 0 : ℕ) + 128 * (i 1 : ℕ) + (i 2 : ℕ)
  omega

end Cert.Proof.SharedRef

end
-- ==== Proof.SharedRefRun.lean ====
/- THE RUN OF `shared_up`'S REFERENCE: its two results are `SharedArrays.codes` and `SharedArrays.scales` of its arguments. -/
module

public import proofs.«01_k».proof.Proof.SharedRef
public import proofs.«01_k».proof.Proof.Least
public import proofs.«01_k».proof.Proof.Gen.SharedReferenceIdeal.Value
public import Idealize.ShloMosaic.Lib.Pipeline.ValueKit

@[expose] public section

set_option maxRecDepth 16384

noncomputable section

namespace Cert.Proof.SharedRefRun

open Cert.Proof.SharedRef Cert.Proof.SharedArrays Cert.SharedReferenceIdeal Cert.SharedReferenceIdeal.Gen Cert.Proof.Spec Idealize.ShloMosaic Idealize.ShloMosaic.TcCoe Idealize.SL.Sem

variable (P0 : Vec Ideal S24576x3072 .fp8e4m3) (P1 : Vec Ideal S24576x1 .f32) (P2 : Vec Ideal S3072x1536 .fp8e4m3)
  (P3 : Vec Ideal S1x1536 .f32) (P4 : Vec Ideal S3072x1536 .fp8e4m3) (P5 : Vec Ideal S1x1536 .f32)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0, 0] :=
  (by decide +kernel : ∀ t : Fin grid0.N, _)

theorem blk0 (c : Dev nD) (t : Fin cfg0.N) : iblk m c 0 t = m ((c : Thread nD τ).loc main_arg0) := by blk_ext! [iblk, V, idx t]
theorem blk2 (c : Dev nD) (t : Fin cfg0.N) : iblk m c 2 t = m ((c : Thread nD τ).loc main_arg2) := by blk_ext! [iblk, V, idx t]
theorem blk3 (c : Dev nD) (t : Fin cfg0.N) : iblk m c 3 t = m ((c : Thread nD τ).loc main_arg3) := by blk_ext! [iblk, V, idx t]
theorem blk4 (c : Dev nD) (t : Fin cfg0.N) : iblk m c 4 t = m ((c : Thread nD τ).loc main_arg4) := by blk_ext! [iblk, V, idx t]
theorem blk5 (c : Dev nD) (t : Fin cfg0.N) : iblk m c 5 t = m ((c : Thread nD τ).loc main_arg5) := by blk_ext! [iblk, V, idx t]
/-- The scales, read as a column. -/
theorem scale_column (v : FVec Ideal S48x4x128 .f32) (hs : S48x4x128.ShapeCasts S24576x1) (j : S24576x1.Idx) (r : Fin 24576) (hj : (j 0 : ℕ) = r) :
    shapeCast S24576x1 v hs j = v (ix3 ⟨(r : ℕ) / 512, by omega⟩ ⟨(r : ℕ) / 128 % 4, by omega⟩ ⟨(r : ℕ) % 128, by omega⟩) := by
  refine shapeCast_apply v hs j _ ?_
  rw [Shape.rowMajor_val_three, Shape.rowMajor_val_two]
  have h1 : (j 1 : ℕ) < 1 := (j 1).isLt
  have h0 : (r : ℕ) < 24576 := r.isLt
  show ((r : ℕ) / 512 * 4 + (r : ℕ) / 128 % 4) * 128 + (r : ℕ) % 128 = (j 0 : ℕ) * 1 + (j 1 : ℕ)
  omega

theorem blk1 (c : Dev nD) (t : Fin cfg0.N) (r : Fin 24576) : (show FVec Ideal S24576x1 .f32 from iblk m c 1 t) (ix2 r 0)
    = (show FVec Ideal S48x4x128 .f32 from m ((c : Thread nD τ).loc main_arg1)) (ix3 ⟨(r : ℕ) / 512, by omega⟩ ⟨(r : ℕ) / 128 % 4, by omega⟩ ⟨(r : ℕ) % 128, by omega⟩) := by
  show V m c main_v0 (((cfg0.win 1).blk t).view.emb (ix2 r 0)) = _
  entry_read
  exact scale_column _ _ _ r (by blk_simp [idx t])

theorem hz2 : (![0, 0] : Fin 2 → ℕ) = fun _ => 0 := by funext a; fin_cases a <;> rfl
theorem hz3 : (![0, 0, 0] : Fin 3 → ℕ) = fun _ => 0 := by funext a; fin_cases a <;> rfl

theorem ld0 (x : Vec Ideal S24576x3072 .fp8e4m3) : View.ld x r0_0 = x := by
  unfold r0_0
  exact View.ld_unit_zero hz2 _ x
theorem ld1 (x : Vec Ideal S24576x1 .f32) : View.ld x r0_1 = x := by
  unfold r0_1
  exact View.ld_unit_zero hz2 _ x
theorem ld2 (x : Vec Ideal S3072x1536 .fp8e4m3) : View.ld x r0_2 = x := by
  unfold r0_2
  exact View.ld_unit_zero hz2 _ x
theorem ld3 (x : Vec Ideal S1x1536 .f32) : View.ld x r0_3 = x := by
  unfold r0_3
  exact View.ld_unit_zero hz2 _ x

section
variable (x0 : Vec Ideal S24576x3072 .fp8e4m3) (x1 : Vec Ideal S24576x1 .f32) (x2 x3 : Vec Ideal S3072x1536 .fp8e4m3) (x4 x5 : Vec Ideal S1x1536 .f32)

theorem out6_eq : out0_6 x0 x1 x2 x3 x4 x5 = fun y => codeRow (hC x0 x1 x2 x4 x3 x5 (y 0)) (y 1) := by
  unfold_out out0_6
  rw [View.canon_unit_zero hz2]
  rw [ld0, ld1, ld2, ld2, ld3, ld3]
  funext y
  exact pay2_at x0 x1 x2 x4 x3 x5 y

theorem out7_eq : out0_7 x0 x1 x2 x3 x4 x5 = fun y => scaleRow (hC x0 x1 x2 x4 x3 x5 ⟨512 * (y 0 : ℕ) + 128 * (y 1 : ℕ) + (y 2 : ℕ), by
    have h0 := (y 0).isLt; have h1 := (y 1).isLt; have h2 := (y 2).isLt; simp at h0 h1 h2; omega⟩) := by
  unfold_out out0_7
  rw [View.canon_unit_zero hz3]
  rw [ld0, ld1, ld2, ld2, ld3, ld3]
  funext y
  exact pay3_at x0 x1 x2 x4 x3 x5 y
end

/-- The block's gated products are those of the arguments. -/
theorem rows (c : Dev nD) (t : Fin cfg0.N) (r : Fin 24576) :
    hC (iblk m c 0 t) (iblk m c 1 t) (iblk m c 2 t) (iblk m c 4 t) (iblk m c 3 t) (iblk m c 5 t) r
    = hA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r := by
  funext f
  rw [blk0, blk2, blk3, blk4, blk5]
  exact congrArg (fun s => hval _ _ _ s _ _) (blk1 m c t r)

theorem final6 (c : Dev nD) : (dats m 0 c).arrAt 6 (cfgs 0).N
    = codes (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6, out6_eq]
  refine (congrArg (fun h => codeRow h (y 1)) (rows m c t (y 0))).trans ?_
  exact congrArg₂ (fun r f => codeRow (hA _ _ _ _ _ _ r) f) (Fin.ext (by blk_simp [idx t])) (Fin.ext (by blk_simp [idx t]))

theorem final7 (c : Dev nD) : (dats m 0 c).arrAt 7 (cfgs 0).N
    = scales (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7, out7_eq]
  refine (congrArg scaleRow (rows m c t _)).trans ?_
  refine congrArg (fun r => scaleRow (hA _ _ _ _ _ _ r)) (Fin.ext ?_)
  dsimp only
  blk_simp [idx t]

end Cert.Proof.SharedRefRun

end
-- ==== Proof.SharedAlg.lean ====
/- THE ALGEBRAIC CLAIM OF `shared_up`: kernel and reference compute the same two arrays, `SharedArrays.codes` and
   `SharedArrays.scales`, of equal arguments. -/
module

public import proofs.«01_k».proof.Defs
public import proofs.«01_k».proof.Proof.SharedValue
public import proofs.«01_k».proof.Proof.SharedRefRun

@[expose] public section

noncomputable section

namespace Cert.Proof

open Idealize.ShloMosaic Idealize.SL.Sem

theorem shared_algebraic : Cert.algebraic_SharedIdeal_SharedReferenceIdeal (hSharedIdeal := Cert.SharedIdeal.Gen.facts)
    (hSharedReferenceIdeal := Cert.SharedReferenceIdeal.Gen.facts) := by
  intro m g m' g' _ hargs
  refine ⟨fun c => SharedArrays.codes (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4)) (m ((c.tc : Thread Cert.SharedIdeal.nD Cert.SharedIdeal.τ).loc Cert.SharedIdeal.main_arg5)), fun c => SharedArrays.scales (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4)) (m ((c.tc : Thread Cert.SharedIdeal.nD Cert.SharedIdeal.τ).loc Cert.SharedIdeal.main_arg5)), ?_, ?_⟩
  · refine (θ_run (Cert.SharedIdeal.defs (F := Ideal)) _ _).mono (fun r h c => ?_) (Cert.SharedIdeal.Value.run_blocks (F := Ideal) m g)
    obtain ⟨h6, h7, ha⟩ := h c
    exact ⟨h6.trans (SharedValue.final6 m c), h7.trans (SharedValue.final7 m c), ha⟩
  · refine (θ_run (Cert.SharedReferenceIdeal.defs (F := Ideal)) _ _).mono (fun r h c => ?_) (Cert.SharedReferenceIdeal.Value.run_blocks (F := Ideal) m' g')
    obtain ⟨h6, h7, ha⟩ := h c
    obtain ⟨e0, e1, e2, e3, e4, e5⟩ := hargs c
    refine ⟨h6.trans ((SharedRefRun.final6 m' c).trans ?_), h7.trans ((SharedRefRun.final7 m' c).trans ?_), ha⟩
    · rw [e0, e1, e2, e3, e4, e5]
    · rw [e0, e1, e2, e3, e4, e5]

end Cert.Proof

end
-- ==== Proof.RoutedPre.lean ====
/- THE PRECONDITION of `routed_up`'s claims, read as facts of the tables: at least one tile in use, every tile's expert one of
   the 32. -/
module

public import proofs.«01_k».proof.Pre_tables_valid
public import Idealize.ShloMosaic.Lib.Affine
public import Idealize.ShloMosaic.Lib.Pointwise.Index
public import Idealize.ShloMosaic.PureOps.Reduce

@[expose] public section

set_option maxRecDepth 16384

noncomputable section

namespace Cert.Proof.RoutedPre

open Idealize.ShloMosaic

theorem pre_facts : Cert.Pre_tables_valid.Facts where
  shapeCasts_S1_S_ := by decide
  bcast_S_S416 := by decide
  reducesTo_S416_S_d0 := by decide
  h_S_ := by decide

instance : Std.Commutative (IntOp.andi (w := 1)) := ⟨fun a b => BitVec.and_comm a b⟩
instance : Std.Associative (IntOp.andi (w := 1)) := ⟨fun a b c => BitVec.and_assoc a b c⟩

theorem and_one : ∀ a b : BitVec 1, IntOp.andi a b = 1#1 → a = 1#1 ∧ b = 1#1 := by decide

/-- If the conjunction of a list of bits is 1, each of them is. -/
theorem foldl_and {α : Type} (x : α → BitVec 1) (l : List α) (b : BitVec 1) (h : l.foldl (fun r i => IntOp.andi r (x i)) b = 1#1) :
    b = 1#1 ∧ ∀ i ∈ l, x i = 1#1 := by
  induction l generalizing b with
  | nil => exact ⟨h, by simp⟩
  | cons a l ih =>
    obtain ⟨h1, h2⟩ := ih _ h
    obtain ⟨h3, h4⟩ := and_one _ _ h1
    exact ⟨h3, by simpa using ⟨h4, h2⟩⟩

theorem sge_iff (a b : BitVec 32) : IntOp.cmpi .sge a b = 1#1 ↔ b.toInt ≤ a.toInt := by
  show BitVec.ofBool (b.sle a) = 1#1 ↔ _
  rw [← BitVec.sle_iff_toInt_le]
  cases b.sle a <;> simp

theorem slt_iff (a b : BitVec 32) : IntOp.cmpi .slt a b = 1#1 ↔ a.toInt < b.toInt := by
  show BitVec.ofBool (a.slt b) = 1#1 ↔ _
  rw [← BitVec.slt_iff_toInt_lt]
  cases a.slt b <;> simp

variable {F : FTy → Type} [FloatOps F]

section
open Cert.Pre_tables_valid
variable [Facts] (a0 : IVec S416 32) (a1 : IVec S1 32) (a2 : IVec S212992x768 32) (a3 : FVec F S416x4x128 .f32)
  (a4 a5 : FVec F S32x3072x1536 .fp8e4m3) (a6 a7 : FVec F S32x1x1536 .f32)

/-- The precondition of the two tables. -/
theorem pre_tables (h : Cert.Pre_tables_valid.fn a0 a1 a2 a3 a4 a5 a6 a7 = fun _ => 1#1) :
    (∀ x, 0 < (a1 x).toNat ∧ (a1 x).toNat < 2 ^ 31) ∧ ∀ j, (a0 j).toNat < 32 := by
  have h0 := congrFun h (fun a : Fin 0 => a.elim0)
  unfold Cert.Pre_tables_valid.fn at h0
  dsimp only at h0
  obtain ⟨h1, h2⟩ := and_one _ _ h0
  rw [Host.reduce_eq_foldl] at h2
  have h3 := (foldl_and _ _ _ h2).2
  constructor
  · intro x
    have e : x = Shape.Idx.first (s := S1) (by decide) := by
      funext a; fin_cases a; exact Subsingleton.elim (α := Fin 1) _ _
    have h4 : IntOp.cmpi .sge (a1 x) 1#32 = 1#1 := by
      refine Eq.trans ?_ h1
      refine congrArg (fun w => IntOp.cmpi .sge w 1#32) ?_
      refine congrArg a1 ?_
      funext a; fin_cases a; exact Subsingleton.elim (α := Fin 1) _ _
    rw [sge_iff, BitVec.toInt_eq_toNat_cond (a1 x)] at h4
    have : (1#32 : BitVec 32).toInt = 1 := by decide
    rw [this] at h4
    have := (a1 x).isLt
    split at h4 <;> omega
  · intro j
    have h4 := h3 j (by
      rw [List.mem_filter]
      refine ⟨List.mem_map.mpr ⟨S416.rowMajor j, List.mem_finRange _, Equiv.symm_apply_apply _ _⟩, ?_⟩
      simp only [decide_eq_true_eq]
      funext a; exact Fin.elim0 a)
    obtain ⟨h5, h6⟩ := and_one _ _ h4
    have h5' : IntOp.cmpi .sge (a0 j) 0#32 = 1#1 := h5
    have h6' : IntOp.cmpi .slt (a0 j) 32#32 = 1#1 := h6
    rw [sge_iff, BitVec.toInt_eq_toNat_cond (a0 j)] at h5'
    rw [slt_iff, BitVec.toInt_eq_toNat_cond (a0 j)] at h6'
    have e0 : (0#32 : BitVec 32).toInt = 0 := by decide
    have e1 : (32#32 : BitVec 32).toInt = 32 := by decide
    rw [e0] at h5'
    rw [e1] at h6'
    have := (a0 j).isLt
    split at h5' <;> split at h6' <;> omega
end

end Cert.Proof.RoutedPre

end
-- ==== Proof.RoutedKit.lean ====
/- THE SETTING OF THE RUN OF `routed_up`: the tables read off the memory at launch, each window's block, the staging buffers
   and the post of the frame claim. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.Routed

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_routed_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S416 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c)))⟩) h

/-! ## The kernel body on any staging memrefs: a subtype the run finds -/

/-- One staging buffer of output window 6, through which its contents are stated (`View.read_writes_of_cover`: the
    choice does not matter). -/
abbrev VO0_6 : View sig .tc .vmem S512x1536 .fp8e4m3 := (Memref.whole cc0_stg6_0 : Memref sig .tc .vmem S512x1536 .fp8e4m3).view
/-- One staging buffer of output window 7, through which its contents are stated (`View.read_writes_of_cover`: the
    choice does not matter). -/
abbrev VO0_7 : View sig .tc .vmem S1x4x128 .f32 := (Memref.whole cc0_stg7_0 : Memref sig .tc .vmem S1x4x128 .f32).view
/-- Each window's current staging memref at point `t`, spelled as the pipeline passes it (`bodyAt0`), and its wholeness. -/
abbrev ms0_0 (hO : Ok m) (t : Fin (cfgM m hO).N) : Memref sig .tc .vmem S512x768 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3072x1536 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3072x1536 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1536 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1536 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x1536 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x128 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S512x3072 .fp8e4m3 := Memref.whole cc0_scratch0
abbrev scM0_1 : Memref sig .tc .vmem S512x1536 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.Routed

end
-- ==== Proof.RoutedTab.lean ====
/- THE TABLES OF `routed_up`: what the precondition says of them, and what the index maps and the body's condition compute
   of them: grid point `t` works on tile `min t (n - 1)`, with `n` the number of tiles in use, and stores only below `n`. -/
module

public import proofs.«01_k».proof.Proof.RoutedKit
public import Idealize.ShloMosaic.Lib.Affine
public import Idealize.ShloMosaic.Lib.Pointwise.Index

@[expose] public section

set_option maxRecDepth 16384

noncomputable section

namespace Cert.Proof.Routed

open Cert.KernelIdeal Cert.KernelIdeal.Gen
open Idealize.ShloMosaic Idealize.ShloMosaic.TcCoe Idealize.ShloMosaic.Tactic
open Idealize.SL.Sem

variable {F : FTy → Type} [FloatOps F]

/-- A signed comparison `<` of words below `2 ^ 31`. -/
theorem slt_iff (a b : BitVec 32) (ha : a.toNat < 2 ^ 31) (hb : b.toNat < 2 ^ 31) : a.slt b = true ↔ a.toNat < b.toNat := by
  rw [BitVec.slt_iff_toInt_lt, BitVec.toInt_eq_toNat_of_lt (by omega), BitVec.toInt_eq_toNat_of_lt (by omega)]; omega

/-- The body's condition: the grid point is below the word. -/
theorem cond_iff (i : grid0.Coords) (w : BitVec 32) (hw : w.toNat < 2 ^ 31) : k0_cond1 i w = 1#1 ↔ (i 0).val < w.toNat := by
  have hi : (i 0).val < 416 := (i 0).isLt
  have e : (BitVec.ofNat 32 (i 0).val).toNat = (i 0).val := by rw [BitVec.toNat_ofNat]; omega
  have h := slt_iff (BitVec.ofNat 32 (i 0).val) w (by omega) hw
  rw [e] at h
  rw [← h]
  unfold k0_cond1
  simp only [Scalar.cmpi, IntOp.cmpi, Scalar.extui]
  cases hs : (BitVec.ofNat 32 (i 0).val).slt w <;> simp [hs]

/-- The clamped grid point. -/
theorem min_word (k : ℕ) (w : BitVec 32) (hk : k < 416) (h1 : 0 < w.toNat) (hw : w.toNat < 2 ^ 31) :
    (Scalar.minsi (BitVec.ofNat 32 k) (Scalar.subi w 1#32)).toNat = min k (w.toNat - 1) := by
  have e : (BitVec.ofNat 32 k).toNat = k := by rw [BitVec.toNat_ofNat]; omega
  have e1 : (w - 1#32).toNat = w.toNat - 1 := by rw [BitVec.toNat_sub_of_le (by simp [BitVec.le_def]; omega)]; rfl
  show (if (BitVec.ofNat 32 k).slt (w - 1#32) = true then BitVec.ofNat 32 k else w - 1#32).toNat = min k (w.toNat - 1)
  have h := slt_iff (BitVec.ofNat 32 k) (w - 1#32) (by omega) (by omega)
  have h' := slt_iff (w - 1#32) (BitVec.ofNat 32 k) (by omega) (by omega)
  rw [e, e1] at h h'
  by_cases hs : (BitVec.ofNat 32 k).slt (w - 1#32) = true
  · rw [if_pos hs, e]; have := h.1 hs; omega
  · rw [if_neg hs, e1]; have := mt h.2 hs; omega

variable (m : (ℓ : Loc nD τ sig) → Buf (Elt F) ℓ)

/-- The one index of a one-element array. -/
abbrev one0 : S1.Idx := ix1 0
/-- Index `j` of the experts' table. -/
abbrev tile0 (j : Fin 416) : S416.Idx := ix1 j

/-- The number of tiles in use, a word. -/
def nw : BitVec 32 := tbl m 1 one0
/-- Tile `j`'s expert, a word. -/
def ew (j : Fin 416) : BitVec 32 := tbl m 0 (tile0 j)

/-- What the precondition says of the tables. -/
structure Tab : Prop where
  pos : 0 < (nw m).toNat
  small : (nw m).toNat < 2 ^ 31
  expert : ∀ j, (ew m j).toNat < 32

theorem one_idx (x : S1.Idx) : x = one0 := by
  funext a; fin_cases a; exact Subsingleton.elim (α := Fin 1) _ _

theorem at_n (r : Rect S1) (h1 : r.shape.numel = 1) : (tbl m).at 1 r h1 = nw m := congrArg (tbl m 1) (one_idx _)

theorem atD_n : (tbl m).atD 1 ![0] = nw m := by
  unfold Pipeline.Prefetch.Contents.atD
  rw [dif_pos (by decide)]
  exact congrArg (tbl m 1) (one_idx _)

theorem at_e (i : grid0.Coords) : (tbl m).at 0 (Rect.unit (s := S416) ![(Scalar.indexCast (BitVec.ofNat 32 (i 0).val)).toNat] S1.size (k0_off1_inb i)) numel1_S1 = ew m (i 0) := by
  refine congrArg (tbl m 0) ?_
  funext a
  fin_cases a
  have hi : (i 0).val < 416 := (i 0).isLt
  apply Fin.ext
  show (BitVec.ofNat 32 (i 0).val).toNat + 1 * 0 = (i 0).val
  rw [BitVec.toNat_ofNat]; omega

theorem ix_a (hT : Tab m) (i : grid0.Coords) : ix0 (tbl m) 0 i = ![min (i 0).val ((nw m).toNat - 1), 0] := by
  show cc0_transform_0 _ _ _ _ = _
  unfold cc0_transform_0
  dsimp only
  rw [at_n, min_word _ _ (i 0).isLt hT.pos hT.small]; rfl
theorem ix_b (hT : Tab m) (i : grid0.Coords) : ix0 (tbl m) 1 i = ![min (i 0).val ((nw m).toNat - 1), 0, 0] := by
  show cc0_transform_1 _ _ _ _ = _
  unfold cc0_transform_1
  dsimp only
  rw [at_n, min_word _ _ (i 0).isLt hT.pos hT.small]; rfl
theorem ix_c (i : grid0.Coords) : ix0 (tbl m) 2 i = ![(ew m (i 0)).toNat, 0, 0] := by
  show cc0_transform_2 _ _ _ _ = _
  unfold cc0_transform_2
  dsimp only
  rw [at_e]; rfl
theorem ix_d (i : grid0.Coords) : ix0 (tbl m) 3 i = ![(ew m (i 0)).toNat, 0, 0] := by
  show cc0_transform_3 _ _ _ _ = _
  unfold cc0_transform_3
  dsimp only
  rw [at_e]; rfl
theorem ix_e (i : grid0.Coords) : ix0 (tbl m) 4 i = ![(ew m (i 0)).toNat, 0, 0] := by
  show cc0_transform_4 _ _ _ _ = _
  unfold cc0_transform_4
  dsimp only
  rw [at_e]; rfl
theorem ix_f (i : grid0.Coords) : ix0 (tbl m) 5 i = ![(ew m (i 0)).toNat, 0, 0] := by
  show cc0_transform_5 _ _ _ _ = _
  unfold cc0_transform_5
  dsimp only
  rw [at_e]; rfl
theorem ix_g (hT : Tab m) (i : grid0.Coords) : ix0 (tbl m) 6 i = ![min (i 0).val ((nw m).toNat - 1), 0] := by
  show cc0_transform_6 _ _ _ _ = _
  unfold cc0_transform_6
  dsimp only
  rw [at_n, min_word _ _ (i 0).isLt hT.pos hT.small]; rfl
theorem ix_h (hT : Tab m) (i : grid0.Coords) : ix0 (tbl m) 7 i = ![min (i 0).val ((nw m).toNat - 1), 0, 0] := by
  show cc0_transform_7 _ _ _ _ = _
  unfold cc0_transform_7
  dsimp only
  rw [at_n, min_word _ _ (i 0).isLt hT.pos hT.small]; rfl

/-- Every block lies inside its array, whole words at a time. -/
theorem ok_of (hT : Tab m) : Ok m := by
  have hm : ∀ i : grid0.Coords, min (i 0).val ((nw m).toNat - 1) < 416 := fun i => by
    have hi : (i 0).val < 416 := (i 0).isLt
    omega
  refine ⟨fun i => ⟨?_, .inl rfl⟩, fun i => ⟨?_, .inl rfl⟩, fun i => ⟨?_, .inr (Affine.block_words_dvd (by decide) (by decide))⟩,
    fun i => ⟨?_, .inr (Affine.block_words_dvd (by decide) (by decide))⟩, fun i => ⟨?_, .inl rfl⟩, fun i => ⟨?_, .inl rfl⟩,
    fun i => ⟨?_, .inr (Affine.block_words_dvd (by decide) (by decide))⟩, fun i => ⟨?_, .inl rfl⟩⟩
  · rw [show cc0_transform_0 inb_S1_S1_0 numel1_S1 (tbl m) i = _ from ix_a m hT i]
    have := hm i; intro a; fin_cases a <;> simp <;> omega
  · rw [show cc0_transform_1 inb_S1_S1_0 numel1_S1 (tbl m) i = _ from ix_b m hT i]
    have := hm i; intro a; fin_cases a <;> simp <;> omega
  · rw [show cc0_transform_2 k0_off1_inb numel1_S1 (tbl m) i = _ from ix_c m i]
    have := hT.expert (i 0); intro a; fin_cases a <;> simp <;> omega
  · rw [show cc0_transform_3 k0_off1_inb numel1_S1 (tbl m) i = _ from ix_d m i]
    have := hT.expert (i 0); intro a; fin_cases a <;> simp <;> omega
  · rw [show cc0_transform_4 k0_off1_inb numel1_S1 (tbl m) i = _ from ix_e m i]
    have := hT.expert (i 0); intro a; fin_cases a <;> simp <;> omega
  · rw [show cc0_transform_5 k0_off1_inb numel1_S1 (tbl m) i = _ from ix_f m i]
    have := hT.expert (i 0); intro a; fin_cases a <;> simp <;> omega
  · rw [show cc0_transform_6 inb_S1_S1_0 numel1_S1 (tbl m) i = _ from ix_g m hT i]
    have := hm i; intro a; fin_cases a <;> simp <;> omega
  · rw [show cc0_transform_7 inb_S1_S1_0 numel1_S1 (tbl m) i = _ from ix_h m hT i]
    have := hm i; intro a; fin_cases a <;> simp <;> omega

end Cert.Proof.Routed

end
-- ==== Proof.RoutedRun.lean ====
/- ONE POINT OF `routed_up` that computes: the body run from any staging buffers, with what it stores into each of them. -/
module

public import proofs.«01_k».proof.Proof.RoutedKit

@[expose] public section

set_option maxRecDepth 16384

noncomputable section

namespace Cert.Proof.Routed

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body stores into each output block and each scratch buffer, as pieces (last first), WITH the proof that at
    a tile below the number of tiles in use (`hc`) the body, on whole staging buffers — the inputs' at their contents,
    the outputs' and the scratch buffers at anything —, runs to the continuation, with the inputs as they were and the
    pieces written into the outputs and the scratch buffers. -/
noncomputable def kernelRun0_A (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) :
    Σ' (L6 : List (View.Piece (Elt F) S512x1536 .fp8e4m3)), Σ' (L7 : List (View.Piece (Elt F) S1x4x128 .f32)), Σ' (LT0 : List (View.Piece (Elt F) S512x3072 .fp8e4m3)), { LT1 : List (View.Piece (Elt F) S512x1536 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LT1) ∗ tbPt0 c tbM0_0 xt0 ∗ tbPt0 c tbM0_1 xt1) -∗ K ⟨⟩))
          ⊢ wp frame (wpE (defs₀ (F := F)) Variants.none c none) E (cc0_routed_up i tbM0_0 htbM0_0 tbM0_1 htbM0_1 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_routed_up_eq_skeleton]; unfold cc0_routed_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    isplitl [HS1]; · iexists _; iexact HS1
    isplitl [HT0]; · iexact HT0
    iexact HT1

end Cert.Proof.Routed

end
-- ==== Proof.RoutedIdle.lean ====
/- ONE POINT OF `routed_up` that computes nothing: the body returns every buffer as it found it. -/
module

public import proofs.«01_k».proof.Proof.RoutedKit

@[expose] public section

set_option maxRecDepth 16384

noncomputable section

namespace Cert.Proof.Routed

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a tile at or past the number of tiles in use (`hc`) the body reads that number and ends: every buffer is handed
    back as it was. -/
theorem kernelRun0_idle (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (x6 : Vec F S512x1536 .fp8e4m3) (x7 : Vec F S1x4x128 .f32) (xt0 : TbBuf0 (F := F) c tbM0_0) (xt1 : TbBuf0 (F := F) c tbM0_1) (hc : ¬ k0_cond1 i (tbM0_1.view.readAt (Elt F) (Rect.unit (s := S1) ![0] S1.size inb_S1_S1_0).toLoadRect xt1 (Shape.Idx.first (numel1_S1.symm ▸ Nat.one_pos))) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0 ∗ tbPt0 c tbM0_1 xt1) -∗ K ⟨⟩))
      ⊢ wp frame (wpE (defs₀ (F := F)) Variants.none c none) E (cc0_routed_up i tbM0_0 htbM0_0 tbM0_1 htbM0_1 arg3 harg3 arg4 harg4 arg5 harg5 arg6 harg6 arg7 harg7 arg8 harg8 arg9 harg9 arg10 harg10 arg11 harg11 arg12 harg12) K := by
  simp only [cc0_routed_up_eq_skeleton]; unfold cc0_routed_up_skel
  iintro ⟨H0, H1, H2, H3, H4, H5, H6, H7, HS0, HS1, HT0, HT1, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HT0]; · iexact HT0
  iexact HT1

end Cert.Proof.Routed

end
-- ==== Proof.RoutedFrame.lean ====
/- THE FRAME OF `routed_up`: every run ends, the arguments unchanged, and the two results are what the grid points that
   compute left, each in its own tile's rows (`dats`). -/
module

public import proofs.«01_k».proof.Proof.RoutedTab
public import proofs.«01_k».proof.Proof.RoutedRun
public import proofs.«01_k».proof.Proof.RoutedIdle
public import Idealize.ShloMosaic.Lib.Claim
public import Idealize.ShloMosaic.Lib.Pipeline.TableIdle

@[expose] public section

set_option maxRecDepth 16384

noncomputable section

namespace Cert.Proof.Routed

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 6 tile its block (1 store of `S512x1536`), so they cover it. -/
theorem cover0_A_6 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) (y : S512x1536.Idx) :
    ∃ pc ∈ (kernelRun0_A c i arg3 harg3 arg4 harg4 arg5 harg5 arg6 harg6 arg7 harg7 arg8 harg8 arg9 harg9 arg10 harg10 arg11 harg11 arg12 harg12 x0 x1 x2 x3 x4 x5 xt0 xt1 hc).1, y ∈ pc.1.set :=
  View.cover_of_tiledL (kernelRun0_A c i arg3 harg3 arg4 harg4 arg5 harg5 arg6 harg6 arg7 harg7 arg8 harg8 arg9 harg9 arg10 harg10 arg11 harg11 arg12 harg12 x0 x1 x2 x3 x4 x5 xt0 xt1 hc).1 S512x1536.size (by sl_kernel_rfl) y

/-- What the run leaves in output 6's staging buffer: its pieces read back over junk. -/
def out0_A_6 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) : Vec F S512x1536 .fp8e4m3 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 x0 x1 x2 x3 x4 x5 xt0 xt1 hc).1)

/-- The run's pieces for output 7 tile its block (4 stores of `S1x1x128`), so they cover it. -/
theorem cover0_A_7 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) (y : S1x4x128.Idx) :
    ∃ pc ∈ (kernelRun0_A c i arg3 harg3 arg4 harg4 arg5 harg5 arg6 harg6 arg7 harg7 arg8 harg8 arg9 harg9 arg10 harg10 arg11 harg11 arg12 harg12 x0 x1 x2 x3 x4 x5 xt0 xt1 hc).2.1, y ∈ pc.1.set :=
  View.cover_of_tiledL (kernelRun0_A c i arg3 harg3 arg4 harg4 arg5 harg5 arg6 harg6 arg7 harg7 arg8 harg8 arg9 harg9 arg10 harg10 arg11 harg11 arg12 harg12 x0 x1 x2 x3 x4 x5 xt0 xt1 hc).2.1 S1x1x128.size (by sl_kernel_rfl) y

/-- What the run leaves in output 7's staging buffer: its pieces read back over junk. -/
def out0_A_7 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) : Vec F S1x4x128 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 x0 x1 x2 x3 x4 x5 xt0 xt1 hc).2.1)

/-! ## What the outputs hold after each point -/

/-- Grid point `t` computes: it is below the number of tiles in use. -/
abbrev Live (c : Dev nD) (i : grid0.Coords) (xt1 : TbBuf0 (F := F) c tbM0_1) : Prop := k0_cond1 i (tbM0_1.view.readAt (Elt F) (Rect.unit (s := S1) ![0] S1.size inb_S1_S1_0).toLoadRect xt1 (Shape.Idx.first (numel1_S1.symm ▸ Nat.one_pos))) = 1#1

/-- The number of tiles in use, as a natural number. -/
abbrev nn : ℕ := (nw m).toNat

theorem live_iff (hT : Tab m) (c : Dev nD) (i : grid0.Coords) : Live c i (tbl m 1) ↔ (i 0).val < nn m := by
  rw [← cond_iff i (nw m) hT.small]
  have e : (tbM0_1.view.readAt (Elt F) (Rect.unit (s := S1) ![0] S1.size inb_S1_S1_0).toLoadRect (tbl m 1 : TbBuf0 (F := F) c tbM0_1) (Shape.Idx.first (numel1_S1.symm ▸ Nat.one_pos))) = nw m := congrArg (tbl m 1) (one_idx _)
  unfold Live
  rw [e]

/-- What the outputs' staging buffers hold after a point that computes. -/
def outsAt0 (hO : Ok m) (c : Dev nD) (t : Fin (cfgM m hO).N) (hc : Live c (grid0.coords t) (tbl m 1)) : Vec F S512x1536 .fp8e4m3 × Vec F S1x4x128 .f32 :=
  (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (tbl m 1) hc, out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (tbl m 1) hc)

open Classical in
/-- The same at any point (nothing in particular at one that does not compute). -/
def outsD (hO : Ok m) (c : Dev nD) (t : Fin (cfgM m hO).N) : Vec F S512x1536 .fp8e4m3 × Vec F S1x4x128 .f32 :=
  if hc : Live c (grid0.coords t) (tbl m 1) then outsAt0 m hO c t hc else (VO0_6.read (Elt F) VO0_6.junk, VO0_7.read (Elt F) VO0_7.junk)

theorem outsD_live (hO : Ok m) (c : Dev nD) (t : Fin (cfgM m hO).N) (hc : Live c (grid0.coords t) (tbl m 1)) : outsD m hO c t = outsAt0 m hO c t hc := dif_pos hc

/-- The last point that computed, at point `t`. -/
def tcap (hO : Ok m) (t : Fin (cfgM m hO).N) : Fin (cfgM m hO).N := ⟨min t.val (nn m - 1), by have := t.isLt; omega⟩

/-! ## The pipeline's proof data -/

/-- The proof data of the one pipeline on core `c`: the arrays as the region finds them; after the body at point `t` each
    input's buffer at its block and the outputs' at what the last point that computed left; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsD m hO c (tcap m hO t)).1
    | ⟨7, _⟩ => (outsD m hO c (tcap m hO t)).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsD m hO c (tcap m hO t)).1 := by dsimp only [dats]; try rfl
theorem after0_7 (hO : Ok m) (c : Dev nD) (t : Fin (cfgM m hO).N) : (dats m hO 0 c).after 7 t = (outsD m hO c (tcap m hO t)).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The points that compute nothing -/

theorem coords_val : ∀ t : Fin grid0.N, (grid0.coords t 0).val = t.val := by decide +kernel

theorem index6 (hO : Ok m) (hT : Tab m) (t : Fin (cfgM m hO).N) : ((cfgM m hO).win 6).index t = ![min t.val (nn m - 1), 0] := by
  have h := ix_g m hT (grid0.coords t)
  rw [coords_val t] at h
  exact h
theorem index7 (hO : Ok m) (hT : Tab m) (t : Fin (cfgM m hO).N) : ((cfgM m hO).win 7).index t = ![min t.val (nn m - 1), 0, 0] := by
  have h := ix_h m hT (grid0.coords t)
  rw [coords_val t] at h
  exact h

theorem flush6 (hO : Ok m) (hT : Tab m) (t : Fin (cfgM m hO).N) (h : nn m ≤ t.val + 1) (hl : t.val + 1 < (cfgM m hO).N) : ((cfgM m hO).win 6).flush t = false := by
  unfold Pipeline.Window.flush
  have e : ((cfgM m hO).win 6).index ⟨t.val + 1, hl⟩ = ((cfgM m hO).win 6).index t := by
    rw [index6 m hO hT, index6 m hO hT]; simp only; rw [Nat.min_eq_right (by omega), Nat.min_eq_right (by omega)]
  have h1 : ¬ t.val + 1 = (cfgM m hO).grid.N := Nat.ne_of_lt hl
  rw [Bool.and_eq_false_iff]; right
  rw [Bool.or_eq_false_iff]
  exact ⟨decide_eq_false h1, decide_eq_false fun ⟨_, hh⟩ => hh e⟩
theorem flush7 (hO : Ok m) (hT : Tab m) (t : Fin (cfgM m hO).N) (h : nn m ≤ t.val + 1) (hl : t.val + 1 < (cfgM m hO).N) : ((cfgM m hO).win 7).flush t = false := by
  unfold Pipeline.Window.flush
  have e : ((cfgM m hO).win 7).index ⟨t.val + 1, hl⟩ = ((cfgM m hO).win 7).index t := by
    rw [index7 m hO hT, index7 m hO hT]; simp only; rw [Nat.min_eq_right (by omega), Nat.min_eq_right (by omega)]
  have h1 : ¬ t.val + 1 = (cfgM m hO).grid.N := Nat.ne_of_lt hl
  rw [Bool.and_eq_false_iff]; right
  rw [Bool.or_eq_false_iff]
  exact ⟨decide_eq_false h1, decide_eq_false fun ⟨_, hh⟩ => hh e⟩

theorem idle_eq (hO : Ok m) (i : grid0.Coords) : (cfgM m hO).idle 6 i = !(k0_cond1 i (nw m) == 1#1) ∧ (cfgM m hO).idle 7 i = !(k0_cond1 i (nw m) == 1#1) := by
  have h := atD_n m
  constructor
  · show (!(k0_cond1 i ((tbl m).atD 1 ![0]) == 1#1)) = _; rw [h]
  · show (!(k0_cond1 i ((tbl m).atD 1 ![0]) == 1#1)) = _; rw [h]

theorem idle_live (hO : Ok m) (hT : Tab m) (t : Fin (cfgM m hO).N) (h : t.val < nn m) : (cfgM m hO).idle 6 (grid0.coords t) = false ∧ (cfgM m hO).idle 7 (grid0.coords t) = false := by
  have hk : k0_cond1 (grid0.coords t) (nw m) = 1#1 := (cond_iff _ _ hT.small).2 (by rw [coords_val]; exact h)
  obtain ⟨a, b⟩ := idle_eq m hO (grid0.coords t)
  rw [a, b, hk]; exact ⟨rfl, rfl⟩
theorem idle_dead (hO : Ok m) (hT : Tab m) (t : Fin (cfgM m hO).N) (h : nn m ≤ t.val) : (cfgM m hO).idle 6 (grid0.coords t) = true ∧ (cfgM m hO).idle 7 (grid0.coords t) = true := by
  have hk : ¬ k0_cond1 (grid0.coords t) (nw m) = 1#1 := mt (cond_iff _ _ hT.small).1 (by rw [coords_val]; exact Nat.not_lt.2 h)
  obtain ⟨a, b⟩ := idle_eq m hO (grid0.coords t)
  rw [a, b, beq_eq_false_iff_ne.2 hk]; exact ⟨rfl, rfl⟩

/-- Past the tiles in use an output's buffer is found as the last computing point left it. -/
theorem before6 (hO : Ok m) (hT : Tab m) (c : Dev nD) (d) : ∀ (k : ℕ) (hk : k < (cfgM m hO).N), nn m ≤ k →
    (dats m hO 0 c).before 6 ⟨k, hk⟩ d = (dats m hO 0 c).after 6 ⟨k, hk⟩ := by
  intro k
  induction k with
  | zero => intro _ h; have := hT.pos; unfold nn at h; omega
  | succ k ih =>
    intro hk h
    rw [(dats m hO 0 c).before_of_pos 6 ⟨k + 1, hk⟩ (Nat.succ_ne_zero k) (Pipeline.Window.fetch_out _ rfl _) d]
    show (if ((cfgM m hO).win 6).flush ⟨k, _⟩ then d else (dats m hO 0 c).left 6 ⟨k, _⟩ d) = _
    rw [flush6 m hO hT ⟨k, by omega⟩ h hk, if_neg Bool.false_ne_true]
    have e : (dats m hO 0 c).after 6 ⟨k + 1, hk⟩ = (dats m hO 0 c).after 6 ⟨k, by omega⟩ := by
      rw [after0_6, after0_6]
      congr 2
      exact Fin.ext (show min (k + 1) (nn m - 1) = min k (nn m - 1) by omega)
    rw [e]
    unfold Dat.left
    by_cases hl : nn m ≤ k
    · rw [show (cfgM m hO).idle 6 ((cfgM m hO).grid.coords ⟨k, _⟩) = true from (idle_dead m hO hT ⟨k, by omega⟩ hl).1]
      exact ih _ hl
    · rw [show (cfgM m hO).idle 6 ((cfgM m hO).grid.coords ⟨k, _⟩) = false from (idle_live m hO hT ⟨k, by omega⟩ (by simp only; omega)).1]
      dsimp only
      unfold Dat.kept
      rw [Pipeline.fill_of_clip_none (cfg := cfgM m hO) 6 _ (fun _ => rfl) d _, Pipeline.Window.fill_cut]
/-- Past the tiles in use an output's buffer is found as the last computing point left it. -/
theorem before7 (hO : Ok m) (hT : Tab m) (c : Dev nD) (d) : ∀ (k : ℕ) (hk : k < (cfgM m hO).N), nn m ≤ k →
    (dats m hO 0 c).before 7 ⟨k, hk⟩ d = (dats m hO 0 c).after 7 ⟨k, hk⟩ := by
  intro k
  induction k with
  | zero => intro _ h; have := hT.pos; unfold nn at h; omega
  | succ k ih =>
    intro hk h
    rw [(dats m hO 0 c).before_of_pos 7 ⟨k + 1, hk⟩ (Nat.succ_ne_zero k) (Pipeline.Window.fetch_out _ rfl _) d]
    show (if ((cfgM m hO).win 7).flush ⟨k, _⟩ then d else (dats m hO 0 c).left 7 ⟨k, _⟩ d) = _
    rw [flush7 m hO hT ⟨k, by omega⟩ h hk, if_neg Bool.false_ne_true]
    have e : (dats m hO 0 c).after 7 ⟨k + 1, hk⟩ = (dats m hO 0 c).after 7 ⟨k, by omega⟩ := by
      rw [after0_7, after0_7]
      congr 2
      exact Fin.ext (show min (k + 1) (nn m - 1) = min k (nn m - 1) by omega)
    rw [e]
    unfold Dat.left
    by_cases hl : nn m ≤ k
    · rw [show (cfgM m hO).idle 7 ((cfgM m hO).grid.coords ⟨k, _⟩) = true from (idle_dead m hO hT ⟨k, by omega⟩ hl).2]
      exact ih _ hl
    · rw [show (cfgM m hO).idle 7 ((cfgM m hO).grid.coords ⟨k, _⟩) = false from (idle_live m hO hT ⟨k, by omega⟩ (by simp only; omega)).2]
      dsimp only
      unfold Dat.kept
      rw [Pipeline.fill_of_clip_none (cfg := cfgM m hO) 7 _ (fun _ => rfl) d _, Pipeline.Window.fill_cut]

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (dats m hO 0 c).leavesExact 6 t
    ∗ (dats m hO 0 c).leavesExact 7 t)

set_option maxHeartbeats 800000 in
/-- The body at a point that computes. -/
theorem sound_live (hO : Ok m) (hT : Tab m) (c : Dev nD) (t : Fin (cfgM m hO).N) (ht : t.val < nn m) :
    bodyPre m hO c t ⊢ wp frame (wpE (defs₀ (F := F)) Variants.none c none) Set.univ (bodyAt0 (adm m hO) t) (fun _ => bodyPost m hO c t) := by
  have hc : Live c (grid0.coords t) (tbl m 1) := (live_iff m hT c _).2 (by rw [coords_val]; exact ht)
  have l6 : (dats m hO 0 c).leavesExact 6 t = owns (c : Thread nD τ) (ms0_6 m hO t) fullShare ((dats m hO 0 c).after 6 t) := by
    unfold Dat.leavesExact
    rw [show (cfgM m hO).idle 6 ((cfgM m hO).grid.coords t) = false from (idle_live m hO hT t ht).1]; try rfl
  have l7 : (dats m hO 0 c).leavesExact 7 t = owns (c : Thread nD τ) (ms0_7 m hO t) fullShare ((dats m hO 0 c).after 7 t) := by
    unfold Dat.leavesExact
    rw [show (cfgM m hO).idle 7 ((cfgM m hO).grid.coords t) = false from (idle_live m hO hT t ht).2]; try rfl
  have tc : tcap m hO t = t := Fin.ext (show min t.val (nn m - 1) = t.val by omega)
  unfold bodyPre bodyPost bodyAt0
  rw [l6, l7]
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, tc, outsD_live m hO c t hc]
  rw [show (dats m hO 0 c).Φ t.castSucc = iprop(Pipeline.ΦA spec0 c ∗ Pipeline.ΦT pre0 (tbl m) c) from rfl, PhiT0_eq, PhiA0_eq]
  unfold outsAt0
  unfold out0_A_6 out0_A_7; (try dsimp only)
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (tbl m 1) hc).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HT0]; · iexact HT0
  isplitl [HT1]; · iexact HT1
  iintro ⟨H0, H1, H2, H3, H4, H5, ⟨%e6, H6⟩, ⟨%e7, H7⟩, ⟨%fT0, HS0⟩, ⟨%fT1, HS1⟩, HT0, HT1⟩
  isplitl [HS0 HS1 Hg HT0 HT1]
  · isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ hc)
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ hc)

set_option maxHeartbeats 800000 in
/-- The body at a point that computes nothing. -/
theorem sound_dead (hO : Ok m) (hT : Tab m) (c : Dev nD) (t : Fin (cfgM m hO).N) (ht : nn m ≤ t.val) :
    bodyPre m hO c t ⊢ wp frame (wpE (defs₀ (F := F)) Variants.none c none) Set.univ (bodyAt0 (adm m hO) t) (fun _ => bodyPost m hO c t) := by
  have hc : ¬ Live c (grid0.coords t) (tbl m 1) := mt (live_iff m hT c _).1 (by rw [coords_val]; omega)
  have b6 : ∀ d, (dats m hO 0 c).before 6 t d = (dats m hO 0 c).after 6 t := fun d => before6 m hO hT c d t.val t.isLt ht
  have b7 : ∀ d, (dats m hO 0 c).before 7 t d = (dats m hO 0 c).after 7 t := fun d => before7 m hO hT c d t.val t.isLt ht
  have l6 : (owns (c : Thread nD τ) (ms0_6 m hO t) fullShare ((dats m hO 0 c).after 6 t) : sProp 𝕄) ⊢ (dats m hO 0 c).leavesExact 6 t := by
    unfold Dat.leavesExact
    rw [show (cfgM m hO).idle 6 ((cfgM m hO).grid.coords t) = true from (idle_dead m hO hT t ht).1]
    dsimp only
    split
    · iintro H
      iexists (dats m hO 0 c).after 6 t
      rw [b6]
      iexact H
    · exact .rfl
  have l7 : (owns (c : Thread nD τ) (ms0_7 m hO t) fullShare ((dats m hO 0 c).after 7 t) : sProp 𝕄) ⊢ (dats m hO 0 c).leavesExact 7 t := by
    unfold Dat.leavesExact
    rw [show (cfgM m hO).idle 7 ((cfgM m hO).grid.coords t) = true from (idle_dead m hO hT t ht).2]
    dsimp only
    split
    · iintro H
      iexists (dats m hO 0 c).after 7 t
      rw [b7]
      iexact H
    · exact .rfl
  unfold bodyPre bodyPost bodyAt0
  simp only [before0_0, before0_1, before0_2, before0_3, before0_4, before0_5, b6, b7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨⟨⟨%ds0, HS0⟩, ⟨%ds1, HS1⟩⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun0_idle c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) ((dats m hO 0 c).after 6 t) ((dats m hO 0 c).after 7 t) (tbl m 0) (tbl m 1) hc Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HT0]; · iexact HT0
  isplitl [HT1]; · iexact HT1
  iintro ⟨H0, H1, H2, H3, H4, H5, H6, H7, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply l6; iexact H6
  iapply l7; iexact H7

theorem sound_body (hO : Ok m) (hT : Tab m) (c : Dev nD) (t : Fin (cfgM m hO).N) :
    bodyPre m hO c t ⊢ wp frame (wpE (defs₀ (F := F)) Variants.none c none) Set.univ (bodyAt0 (adm m hO) t) (fun _ => bodyPost m hO c t) :=
  if h : t.val < nn m then sound_live m hO hT c t h else sound_dead m hO hT c t (by omega)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hT : Tab m) (c : Dev nD) : BodyObligation (dats (F := F) m hO 0 c) (defs₀ (F := F)) Variants.none () Set.univ := fun t => by
  rw [bigSep_W0, bigSep_W0, defs₀_row m hO]
  exact triple_restated (sound_body m hO hT c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hT : Tab m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hT : Tab m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hT)

/-- `frame` without the counters: the argument arrays end unchanged. -/
theorem unchanged (hO : Ok m) (hT : Tab m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO hT)

/-- The frame: every run ends, the arguments unchanged and every counter zero. -/
theorem frame (hO : Ok m) (hT : Tab m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hT) ((θ_run defs _ _).mono (fun _ h => h.2) (run_main_quiescent m ρ hO hT))

end Cert.Proof.Routed

end
-- ==== Proof.RoutedBitsKit.lean ====
/- THE SETTING OF THE RUN OF `routed_up`: the tables read off the memory at launch, each window's block, the staging buffers
   and the post of the frame claim. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.RoutedBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_routed_up (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S416 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c)))⟩) h

/-! ## The kernel body on any staging memrefs: a subtype the run finds -/

/-- One staging buffer of output window 6, through which its contents are stated (`View.read_writes_of_cover`: the
    choice does not matter). -/
abbrev VO0_6 : View sig .tc .vmem S512x1536 .fp8e4m3 := (Memref.whole cc0_stg6_0 : Memref sig .tc .vmem S512x1536 .fp8e4m3).view
/-- One staging buffer of output window 7, through which its contents are stated (`View.read_writes_of_cover`: the
    choice does not matter). -/
abbrev VO0_7 : View sig .tc .vmem S1x4x128 .f32 := (Memref.whole cc0_stg7_0 : Memref sig .tc .vmem S1x4x128 .f32).view
/-- Each window's current staging memref at point `t`, spelled as the pipeline passes it (`bodyAt0`), and its wholeness. -/
abbrev ms0_0 (hO : Ok m) (t : Fin (cfgM m hO).N) : Memref sig .tc .vmem S512x768 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x3072x1536 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3072x1536 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1536 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1536 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x1536 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x4x128 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S512x3072 .fp8e4m3 := Memref.whole cc0_scratch0
abbrev scM0_1 : Memref sig .tc .vmem S512x1536 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.RoutedBits

end
-- ==== Proof.RoutedBitsTab.lean ====
/- THE TABLES OF `routed_up`: what the precondition says of them, and what the index maps and the body's condition compute
   of them: grid point `t` works on tile `min t (n - 1)`, with `n` the number of tiles in use, and stores only below `n`. -/
module

public import proofs.«01_k».proof.Proof.RoutedBitsKit
public import Idealize.ShloMosaic.Lib.Affine
public import Idealize.ShloMosaic.Lib.Pointwise.Index

@[expose] public section

set_option maxRecDepth 16384

noncomputable section

namespace Cert.Proof.RoutedBits

open Cert.Kernel Cert.Kernel.Gen
open Idealize.ShloMosaic Idealize.ShloMosaic.TcCoe Idealize.ShloMosaic.Tactic
open Idealize.SL.Sem

variable {F : FTy → Type} [FloatOps F]

/-- A signed comparison `<` of words below `2 ^ 31`. -/
theorem slt_iff (a b : BitVec 32) (ha : a.toNat < 2 ^ 31) (hb : b.toNat < 2 ^ 31) : a.slt b = true ↔ a.toNat < b.toNat := by
  rw [BitVec.slt_iff_toInt_lt, BitVec.toInt_eq_toNat_of_lt (by omega), BitVec.toInt_eq_toNat_of_lt (by omega)]; omega

/-- The body's condition: the grid point is below the word. -/
theorem cond_iff (i : grid0.Coords) (w : BitVec 32) (hw : w.toNat < 2 ^ 31) : k0_cond1 i w = 1#1 ↔ (i 0).val < w.toNat := by
  have hi : (i 0).val < 416 := (i 0).isLt
  have e : (BitVec.ofNat 32 (i 0).val).toNat = (i 0).val := by rw [BitVec.toNat_ofNat]; omega
  have h := slt_iff (BitVec.ofNat 32 (i 0).val) w (by omega) hw
  rw [e] at h
  rw [← h]
  unfold k0_cond1
  simp only [Scalar.cmpi, IntOp.cmpi, Scalar.extui]
  cases hs : (BitVec.ofNat 32 (i 0).val).slt w <;> simp [hs]

/-- The clamped grid point. -/
theorem min_word (k : ℕ) (w : BitVec 32) (hk : k < 416) (h1 : 0 < w.toNat) (hw : w.toNat < 2 ^ 31) :
    (Scalar.minsi (BitVec.ofNat 32 k) (Scalar.subi w 1#32)).toNat = min k (w.toNat - 1) := by
  have e : (BitVec.ofNat 32 k).toNat = k := by rw [BitVec.toNat_ofNat]; omega
  have e1 : (w - 1#32).toNat = w.toNat - 1 := by rw [BitVec.toNat_sub_of_le (by simp [BitVec.le_def]; omega)]; rfl
  show (if (BitVec.ofNat 32 k).slt (w - 1#32) = true then BitVec.ofNat 32 k else w - 1#32).toNat = min k (w.toNat - 1)
  have h := slt_iff (BitVec.ofNat 32 k) (w - 1#32) (by omega) (by omega)
  have h' := slt_iff (w - 1#32) (BitVec.ofNat 32 k) (by omega) (by omega)
  rw [e, e1] at h h'
  by_cases hs : (BitVec.ofNat 32 k).slt (w - 1#32) = true
  · rw [if_pos hs, e]; have := h.1 hs; omega
  · rw [if_neg hs, e1]; have := mt h.2 hs; omega

variable (m : (ℓ : Loc nD τ sig) → Buf (Elt F) ℓ)

/-- The one index of a one-element array. -/
abbrev one0 : S1.Idx := ix1 0
/-- Index `j` of the experts' table. -/
abbrev tile0 (j : Fin 416) : S416.Idx := ix1 j

/-- The number of tiles in use, a word. -/
def nw : BitVec 32 := tbl m 1 one0
/-- Tile `j`'s expert, a word. -/
def ew (j : Fin 416) : BitVec 32 := tbl m 0 (tile0 j)

/-- What the precondition says of the tables. -/
structure Tab : Prop where
  pos : 0 < (nw m).toNat
  small : (nw m).toNat < 2 ^ 31
  expert : ∀ j, (ew m j).toNat < 32

theorem one_idx (x : S1.Idx) : x = one0 := by
  funext a; fin_cases a; exact Subsingleton.elim (α := Fin 1) _ _

theorem at_n (r : Rect S1) (h1 : r.shape.numel = 1) : (tbl m).at 1 r h1 = nw m := congrArg (tbl m 1) (one_idx _)

theorem atD_n : (tbl m).atD 1 ![0] = nw m := by
  unfold Pipeline.Prefetch.Contents.atD
  rw [dif_pos (by decide)]
  exact congrArg (tbl m 1) (one_idx _)

theorem at_e (i : grid0.Coords) : (tbl m).at 0 (Rect.unit (s := S416) ![(Scalar.indexCast (BitVec.ofNat 32 (i 0).val)).toNat] S1.size (k0_off1_inb i)) numel1_S1 = ew m (i 0) := by
  refine congrArg (tbl m 0) ?_
  funext a
  fin_cases a
  have hi : (i 0).val < 416 := (i 0).isLt
  apply Fin.ext
  show (BitVec.ofNat 32 (i 0).val).toNat + 1 * 0 = (i 0).val
  rw [BitVec.toNat_ofNat]; omega

theorem ix_a (hT : Tab m) (i : grid0.Coords) : ix0 (tbl m) 0 i = ![min (i 0).val ((nw m).toNat - 1), 0] := by
  show cc0_transform_0 _ _ _ _ = _
  unfold cc0_transform_0
  dsimp only
  rw [at_n, min_word _ _ (i 0).isLt hT.pos hT.small]; rfl
theorem ix_b (hT : Tab m) (i : grid0.Coords) : ix0 (tbl m) 1 i = ![min (i 0).val ((nw m).toNat - 1), 0, 0] := by
  show cc0_transform_1 _ _ _ _ = _
  unfold cc0_transform_1
  dsimp only
  rw [at_n, min_word _ _ (i 0).isLt hT.pos hT.small]; rfl
theorem ix_c (i : grid0.Coords) : ix0 (tbl m) 2 i = ![(ew m (i 0)).toNat, 0, 0] := by
  show cc0_transform_2 _ _ _ _ = _
  unfold cc0_transform_2
  dsimp only
  rw [at_e]; rfl
theorem ix_d (i : grid0.Coords) : ix0 (tbl m) 3 i = ![(ew m (i 0)).toNat, 0, 0] := by
  show cc0_transform_3 _ _ _ _ = _
  unfold cc0_transform_3
  dsimp only
  rw [at_e]; rfl
theorem ix_e (i : grid0.Coords) : ix0 (tbl m) 4 i = ![(ew m (i 0)).toNat, 0, 0] := by
  show cc0_transform_4 _ _ _ _ = _
  unfold cc0_transform_4
  dsimp only
  rw [at_e]; rfl
theorem ix_f (i : grid0.Coords) : ix0 (tbl m) 5 i = ![(ew m (i 0)).toNat, 0, 0] := by
  show cc0_transform_5 _ _ _ _ = _
  unfold cc0_transform_5
  dsimp only
  rw [at_e]; rfl
theorem ix_g (hT : Tab m) (i : grid0.Coords) : ix0 (tbl m) 6 i = ![min (i 0).val ((nw m).toNat - 1), 0] := by
  show cc0_transform_6 _ _ _ _ = _
  unfold cc0_transform_6
  dsimp only
  rw [at_n, min_word _ _ (i 0).isLt hT.pos hT.small]; rfl
theorem ix_h (hT : Tab m) (i : grid0.Coords) : ix0 (tbl m) 7 i = ![min (i 0).val ((nw m).toNat - 1), 0, 0] := by
  show cc0_transform_7 _ _ _ _ = _
  unfold cc0_transform_7
  dsimp only
  rw [at_n, min_word _ _ (i 0).isLt hT.pos hT.small]; rfl

/-- Every block lies inside its array, whole words at a time. -/
theorem ok_of (hT : Tab m) : Ok m := by
  have hm : ∀ i : grid0.Coords, min (i 0).val ((nw m).toNat - 1) < 416 := fun i => by
    have hi : (i 0).val < 416 := (i 0).isLt
    omega
  refine ⟨fun i => ⟨?_, .inl rfl⟩, fun i => ⟨?_, .inl rfl⟩, fun i => ⟨?_, .inr (Affine.block_words_dvd (by decide) (by decide))⟩,
    fun i => ⟨?_, .inr (Affine.block_words_dvd (by decide) (by decide))⟩, fun i => ⟨?_, .inl rfl⟩, fun i => ⟨?_, .inl rfl⟩,
    fun i => ⟨?_, .inr (Affine.block_words_dvd (by decide) (by decide))⟩, fun i => ⟨?_, .inl rfl⟩⟩
  · rw [show cc0_transform_0 inb_S1_S1_0 numel1_S1 (tbl m) i = _ from ix_a m hT i]
    have := hm i; intro a; fin_cases a <;> simp <;> omega
  · rw [show cc0_transform_1 inb_S1_S1_0 numel1_S1 (tbl m) i = _ from ix_b m hT i]
    have := hm i; intro a; fin_cases a <;> simp <;> omega
  · rw [show cc0_transform_2 k0_off1_inb numel1_S1 (tbl m) i = _ from ix_c m i]
    have := hT.expert (i 0); intro a; fin_cases a <;> simp <;> omega
  · rw [show cc0_transform_3 k0_off1_inb numel1_S1 (tbl m) i = _ from ix_d m i]
    have := hT.expert (i 0); intro a; fin_cases a <;> simp <;> omega
  · rw [show cc0_transform_4 k0_off1_inb numel1_S1 (tbl m) i = _ from ix_e m i]
    have := hT.expert (i 0); intro a; fin_cases a <;> simp <;> omega
  · rw [show cc0_transform_5 k0_off1_inb numel1_S1 (tbl m) i = _ from ix_f m i]
    have := hT.expert (i 0); intro a; fin_cases a <;> simp <;> omega
  · rw [show cc0_transform_6 inb_S1_S1_0 numel1_S1 (tbl m) i = _ from ix_g m hT i]
    have := hm i; intro a; fin_cases a <;> simp <;> omega
  · rw [show cc0_transform_7 inb_S1_S1_0 numel1_S1 (tbl m) i = _ from ix_h m hT i]
    have := hm i; intro a; fin_cases a <;> simp <;> omega

end Cert.Proof.RoutedBits

end
-- ==== Proof.RoutedBitsRun.lean ====
/- ONE POINT OF `routed_up` that computes: the body run from any staging buffers, with what it stores into each of them. -/
module

public import proofs.«01_k».proof.Proof.RoutedBitsKit

@[expose] public section

set_option maxRecDepth 16384

noncomputable section

namespace Cert.Proof.RoutedBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- What the body stores into each output block and each scratch buffer, as pieces (last first), WITH the proof that at
    a tile below the number of tiles in use (`hc`) the body, on whole staging buffers — the inputs' at their contents,
    the outputs' and the scratch buffers at anything —, runs to the continuation, with the inputs as they were and the
    pieces written into the outputs and the scratch buffers. -/
noncomputable def kernelRun0_A (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) :
    Σ' (L6 : List (View.Piece (Elt F) S512x1536 .fp8e4m3)), Σ' (L7 : List (View.Piece (Elt F) S1x4x128 .f32)), Σ' (LT0 : List (View.Piece (Elt F) S512x3072 .fp8e4m3)), { LT1 : List (View.Piece (Elt F) S512x1536 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LT0) ∗ (∃ f, arg12.view.loc (c : Thread nD τ) ↦[arg12.view.set]{fullShare} arg12.view.writes (Elt F) f LT1) ∗ tbPt0 c tbM0_0 xt0 ∗ tbPt0 c tbM0_1 xt1) -∗ K ⟨⟩))
          ⊢ wp frame (wpE (defs₀ (F := F)) Variants.none c none) E (cc0_routed_up i tbM0_0 htbM0_0 tbM0_1 htbM0_1 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_routed_up_eq_skeleton]; unfold cc0_routed_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexists _; iexact HS0
    isplitl [HS1]; · iexists _; iexact HS1
    isplitl [HT0]; · iexact HT0
    iexact HT1

end Cert.Proof.RoutedBits

end
-- ==== Proof.RoutedBitsIdle.lean ====
/- ONE POINT OF `routed_up` that computes nothing: the body returns every buffer as it found it. -/
module

public import proofs.«01_k».proof.Proof.RoutedBitsKit

@[expose] public section

set_option maxRecDepth 16384

noncomputable section

namespace Cert.Proof.RoutedBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a tile at or past the number of tiles in use (`hc`) the body reads that number and ends: every buffer is handed
    back as it was. -/
theorem kernelRun0_idle (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (x6 : Vec F S512x1536 .fp8e4m3) (x7 : Vec F S1x4x128 .f32) (xt0 : TbBuf0 (F := F) c tbM0_0) (xt1 : TbBuf0 (F := F) c tbM0_1) (hc : ¬ k0_cond1 i (tbM0_1.view.readAt (Elt F) (Rect.unit (s := S1) ![0] S1.size inb_S1_S1_0).toLoadRect xt1 (Shape.Idx.first (numel1_S1.symm ▸ Nat.one_pos))) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ tbPt0 c tbM0_0 xt0 ∗ tbPt0 c tbM0_1 xt1) -∗ K ⟨⟩))
      ⊢ wp frame (wpE (defs₀ (F := F)) Variants.none c none) E (cc0_routed_up i tbM0_0 htbM0_0 tbM0_1 htbM0_1 arg3 harg3 arg4 harg4 arg5 harg5 arg6 harg6 arg7 harg7 arg8 harg8 arg9 harg9 arg10 harg10 arg11 harg11 arg12 harg12) K := by
  simp only [cc0_routed_up_eq_skeleton]; unfold cc0_routed_up_skel
  iintro ⟨H0, H1, H2, H3, H4, H5, H6, H7, HS0, HS1, HT0, HT1, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HT0]; · iexact HT0
  iexact HT1

end Cert.Proof.RoutedBits

end
-- ==== Proof.RoutedBitsFrame.lean ====
/- THE FRAME OF `routed_up`: every run ends, the arguments unchanged, and the two results are what the grid points that
   compute left, each in its own tile's rows (`dats`). -/
module

public import proofs.«01_k».proof.Proof.RoutedBitsTab
public import proofs.«01_k».proof.Proof.RoutedBitsRun
public import proofs.«01_k».proof.Proof.RoutedBitsIdle
public import Idealize.ShloMosaic.Lib.Claim
public import Idealize.ShloMosaic.Lib.Pipeline.TableIdle

@[expose] public section

set_option maxRecDepth 16384

noncomputable section

namespace Cert.Proof.RoutedBits

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for output 6 tile its block (1 store of `S512x1536`), so they cover it. -/
theorem cover0_A_6 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) (y : S512x1536.Idx) :
    ∃ pc ∈ (kernelRun0_A c i arg3 harg3 arg4 harg4 arg5 harg5 arg6 harg6 arg7 harg7 arg8 harg8 arg9 harg9 arg10 harg10 arg11 harg11 arg12 harg12 x0 x1 x2 x3 x4 x5 xt0 xt1 hc).1, y ∈ pc.1.set :=
  View.cover_of_tiledL (kernelRun0_A c i arg3 harg3 arg4 harg4 arg5 harg5 arg6 harg6 arg7 harg7 arg8 harg8 arg9 harg9 arg10 harg10 arg11 harg11 arg12 harg12 x0 x1 x2 x3 x4 x5 xt0 xt1 hc).1 S512x1536.size (by sl_kernel_rfl) y

/-- What the run leaves in output 6's staging buffer: its pieces read back over junk. -/
def out0_A_6 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) : Vec F S512x1536 .fp8e4m3 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 x0 x1 x2 x3 x4 x5 xt0 xt1 hc).1)

/-- The run's pieces for output 7 tile its block (4 stores of `S1x1x128`), so they cover it. -/
theorem cover0_A_7 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) (y : S1x4x128.Idx) :
    ∃ pc ∈ (kernelRun0_A c i arg3 harg3 arg4 harg4 arg5 harg5 arg6 harg6 arg7 harg7 arg8 harg8 arg9 harg9 arg10 harg10 arg11 harg11 arg12 harg12 x0 x1 x2 x3 x4 x5 xt0 xt1 hc).2.1, y ∈ pc.1.set :=
  View.cover_of_tiledL (kernelRun0_A c i arg3 harg3 arg4 harg4 arg5 harg5 arg6 harg6 arg7 harg7 arg8 harg8 arg9 harg9 arg10 harg10 arg11 harg11 arg12 harg12 x0 x1 x2 x3 x4 x5 xt0 xt1 hc).2.1 S1x1x128.size (by sl_kernel_rfl) y

/-- What the run leaves in output 7's staging buffer: its pieces read back over junk. -/
def out0_A_7 (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec F S512x768 .i32) (x1 : Vec F S1x4x128 .f32) (x2 : Vec F S1x3072x1536 .fp8e4m3) (x3 : Vec F S1x3072x1536 .fp8e4m3) (x4 : Vec F S1x1x1536 .f32) (x5 : Vec F S1x1x1536 .f32) (xt0 : TbBuf0 (F := F) c tbM0_0) (xt1 : TbBuf0 (F := F) c tbM0_1) (hc : k0_cond1 i (tbM0_1.view.readAt (Elt F) (Rect.unit (s := S1) ![0] S1.size inb_S1_S1_0).toLoadRect xt1 (Shape.Idx.first (numel1_S1.symm ▸ Nat.one_pos))) = 1#1) : Vec F S1x4x128 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 x0 x1 x2 x3 x4 x5 xt0 xt1 hc).2.1)

/-! ## What the outputs hold after each point -/

/-- Grid point `t` computes: it is below the number of tiles in use. -/
abbrev Live (c : Dev nD) (i : grid0.Coords) (xt1 : TbBuf0 (F := F) c tbM0_1) : Prop := k0_cond1 i (tbM0_1.view.readAt (Elt F) (Rect.unit (s := S1) ![0] S1.size inb_S1_S1_0).toLoadRect xt1 (Shape.Idx.first (numel1_S1.symm ▸ Nat.one_pos))) = 1#1

/-- The number of tiles in use, as a natural number. -/
abbrev nn : ℕ := (nw m).toNat

theorem live_iff (hT : Tab m) (c : Dev nD) (i : grid0.Coords) : Live c i (tbl m 1) ↔ (i 0).val < nn m := by
  rw [← cond_iff i (nw m) hT.small]
  have e : (tbM0_1.view.readAt (Elt F) (Rect.unit (s := S1) ![0] S1.size inb_S1_S1_0).toLoadRect (tbl m 1 : TbBuf0 (F := F) c tbM0_1) (Shape.Idx.first (numel1_S1.symm ▸ Nat.one_pos))) = nw m := congrArg (tbl m 1) (one_idx _)
  unfold Live
  rw [e]

/-- What the outputs' staging buffers hold after a point that computes. -/
def outsAt0 (hO : Ok m) (c : Dev nD) (t : Fin (cfgM m hO).N) (hc : Live c (grid0.coords t) (tbl m 1)) : Vec F S512x1536 .fp8e4m3 × Vec F S1x4x128 .f32 :=
  (out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (tbl m 1) hc, out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (tbl m 1) hc)

open Classical in
/-- The same at any point (nothing in particular at one that does not compute). -/
def outsD (hO : Ok m) (c : Dev nD) (t : Fin (cfgM m hO).N) : Vec F S512x1536 .fp8e4m3 × Vec F S1x4x128 .f32 :=
  if hc : Live c (grid0.coords t) (tbl m 1) then outsAt0 m hO c t hc else (VO0_6.read (Elt F) VO0_6.junk, VO0_7.read (Elt F) VO0_7.junk)

theorem outsD_live (hO : Ok m) (c : Dev nD) (t : Fin (cfgM m hO).N) (hc : Live c (grid0.coords t) (tbl m 1)) : outsD m hO c t = outsAt0 m hO c t hc := dif_pos hc

/-- The last point that computed, at point `t`. -/
def tcap (hO : Ok m) (t : Fin (cfgM m hO).N) : Fin (cfgM m hO).N := ⟨min t.val (nn m - 1), by have := t.isLt; omega⟩

/-! ## The pipeline's proof data -/

/-- The proof data of the one pipeline on core `c`: the arrays as the region finds them; after the body at point `t` each
    input's buffer at its block and the outputs' at what the last point that computed left; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (outsD m hO c (tcap m hO t)).1
    | ⟨7, _⟩ => (outsD m hO c (tcap m hO t)).2
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = (outsD m hO c (tcap m hO t)).1 := by dsimp only [dats]; try rfl
theorem after0_7 (hO : Ok m) (c : Dev nD) (t : Fin (cfgM m hO).N) : (dats m hO 0 c).after 7 t = (outsD m hO c (tcap m hO t)).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The points that compute nothing -/

theorem coords_val : ∀ t : Fin grid0.N, (grid0.coords t 0).val = t.val := by decide +kernel

theorem index6 (hO : Ok m) (hT : Tab m) (t : Fin (cfgM m hO).N) : ((cfgM m hO).win 6).index t = ![min t.val (nn m - 1), 0] := by
  have h := ix_g m hT (grid0.coords t)
  rw [coords_val t] at h
  exact h
theorem index7 (hO : Ok m) (hT : Tab m) (t : Fin (cfgM m hO).N) : ((cfgM m hO).win 7).index t = ![min t.val (nn m - 1), 0, 0] := by
  have h := ix_h m hT (grid0.coords t)
  rw [coords_val t] at h
  exact h

theorem flush6 (hO : Ok m) (hT : Tab m) (t : Fin (cfgM m hO).N) (h : nn m ≤ t.val + 1) (hl : t.val + 1 < (cfgM m hO).N) : ((cfgM m hO).win 6).flush t = false := by
  unfold Pipeline.Window.flush
  have e : ((cfgM m hO).win 6).index ⟨t.val + 1, hl⟩ = ((cfgM m hO).win 6).index t := by
    rw [index6 m hO hT, index6 m hO hT]; simp only; rw [Nat.min_eq_right (by omega), Nat.min_eq_right (by omega)]
  have h1 : ¬ t.val + 1 = (cfgM m hO).grid.N := Nat.ne_of_lt hl
  rw [Bool.and_eq_false_iff]; right
  rw [Bool.or_eq_false_iff]
  exact ⟨decide_eq_false h1, decide_eq_false fun ⟨_, hh⟩ => hh e⟩
theorem flush7 (hO : Ok m) (hT : Tab m) (t : Fin (cfgM m hO).N) (h : nn m ≤ t.val + 1) (hl : t.val + 1 < (cfgM m hO).N) : ((cfgM m hO).win 7).flush t = false := by
  unfold Pipeline.Window.flush
  have e : ((cfgM m hO).win 7).index ⟨t.val + 1, hl⟩ = ((cfgM m hO).win 7).index t := by
    rw [index7 m hO hT, index7 m hO hT]; simp only; rw [Nat.min_eq_right (by omega), Nat.min_eq_right (by omega)]
  have h1 : ¬ t.val + 1 = (cfgM m hO).grid.N := Nat.ne_of_lt hl
  rw [Bool.and_eq_false_iff]; right
  rw [Bool.or_eq_false_iff]
  exact ⟨decide_eq_false h1, decide_eq_false fun ⟨_, hh⟩ => hh e⟩

theorem idle_eq (hO : Ok m) (i : grid0.Coords) : (cfgM m hO).idle 6 i = !(k0_cond1 i (nw m) == 1#1) ∧ (cfgM m hO).idle 7 i = !(k0_cond1 i (nw m) == 1#1) := by
  have h := atD_n m
  constructor
  · show (!(k0_cond1 i ((tbl m).atD 1 ![0]) == 1#1)) = _; rw [h]
  · show (!(k0_cond1 i ((tbl m).atD 1 ![0]) == 1#1)) = _; rw [h]

theorem idle_live (hO : Ok m) (hT : Tab m) (t : Fin (cfgM m hO).N) (h : t.val < nn m) : (cfgM m hO).idle 6 (grid0.coords t) = false ∧ (cfgM m hO).idle 7 (grid0.coords t) = false := by
  have hk : k0_cond1 (grid0.coords t) (nw m) = 1#1 := (cond_iff _ _ hT.small).2 (by rw [coords_val]; exact h)
  obtain ⟨a, b⟩ := idle_eq m hO (grid0.coords t)
  rw [a, b, hk]; exact ⟨rfl, rfl⟩
theorem idle_dead (hO : Ok m) (hT : Tab m) (t : Fin (cfgM m hO).N) (h : nn m ≤ t.val) : (cfgM m hO).idle 6 (grid0.coords t) = true ∧ (cfgM m hO).idle 7 (grid0.coords t) = true := by
  have hk : ¬ k0_cond1 (grid0.coords t) (nw m) = 1#1 := mt (cond_iff _ _ hT.small).1 (by rw [coords_val]; exact Nat.not_lt.2 h)
  obtain ⟨a, b⟩ := idle_eq m hO (grid0.coords t)
  rw [a, b, beq_eq_false_iff_ne.2 hk]; exact ⟨rfl, rfl⟩

/-- Past the tiles in use an output's buffer is found as the last computing point left it. -/
theorem before6 (hO : Ok m) (hT : Tab m) (c : Dev nD) (d) : ∀ (k : ℕ) (hk : k < (cfgM m hO).N), nn m ≤ k →
    (dats m hO 0 c).before 6 ⟨k, hk⟩ d = (dats m hO 0 c).after 6 ⟨k, hk⟩ := by
  intro k
  induction k with
  | zero => intro _ h; have := hT.pos; unfold nn at h; omega
  | succ k ih =>
    intro hk h
    rw [(dats m hO 0 c).before_of_pos 6 ⟨k + 1, hk⟩ (Nat.succ_ne_zero k) (Pipeline.Window.fetch_out _ rfl _) d]
    show (if ((cfgM m hO).win 6).flush ⟨k, _⟩ then d else (dats m hO 0 c).left 6 ⟨k, _⟩ d) = _
    rw [flush6 m hO hT ⟨k, by omega⟩ h hk, if_neg Bool.false_ne_true]
    have e : (dats m hO 0 c).after 6 ⟨k + 1, hk⟩ = (dats m hO 0 c).after 6 ⟨k, by omega⟩ := by
      rw [after0_6, after0_6]
      congr 2
      exact Fin.ext (show min (k + 1) (nn m - 1) = min k (nn m - 1) by omega)
    rw [e]
    unfold Dat.left
    by_cases hl : nn m ≤ k
    · rw [show (cfgM m hO).idle 6 ((cfgM m hO).grid.coords ⟨k, _⟩) = true from (idle_dead m hO hT ⟨k, by omega⟩ hl).1]
      exact ih _ hl
    · rw [show (cfgM m hO).idle 6 ((cfgM m hO).grid.coords ⟨k, _⟩) = false from (idle_live m hO hT ⟨k, by omega⟩ (by simp only; omega)).1]
      dsimp only
      unfold Dat.kept
      rw [Pipeline.fill_of_clip_none (cfg := cfgM m hO) 6 _ (fun _ => rfl) d _, Pipeline.Window.fill_cut]
/-- Past the tiles in use an output's buffer is found as the last computing point left it. -/
theorem before7 (hO : Ok m) (hT : Tab m) (c : Dev nD) (d) : ∀ (k : ℕ) (hk : k < (cfgM m hO).N), nn m ≤ k →
    (dats m hO 0 c).before 7 ⟨k, hk⟩ d = (dats m hO 0 c).after 7 ⟨k, hk⟩ := by
  intro k
  induction k with
  | zero => intro _ h; have := hT.pos; unfold nn at h; omega
  | succ k ih =>
    intro hk h
    rw [(dats m hO 0 c).before_of_pos 7 ⟨k + 1, hk⟩ (Nat.succ_ne_zero k) (Pipeline.Window.fetch_out _ rfl _) d]
    show (if ((cfgM m hO).win 7).flush ⟨k, _⟩ then d else (dats m hO 0 c).left 7 ⟨k, _⟩ d) = _
    rw [flush7 m hO hT ⟨k, by omega⟩ h hk, if_neg Bool.false_ne_true]
    have e : (dats m hO 0 c).after 7 ⟨k + 1, hk⟩ = (dats m hO 0 c).after 7 ⟨k, by omega⟩ := by
      rw [after0_7, after0_7]
      congr 2
      exact Fin.ext (show min (k + 1) (nn m - 1) = min k (nn m - 1) by omega)
    rw [e]
    unfold Dat.left
    by_cases hl : nn m ≤ k
    · rw [show (cfgM m hO).idle 7 ((cfgM m hO).grid.coords ⟨k, _⟩) = true from (idle_dead m hO hT ⟨k, by omega⟩ hl).2]
      exact ih _ hl
    · rw [show (cfgM m hO).idle 7 ((cfgM m hO).grid.coords ⟨k, _⟩) = false from (idle_live m hO hT ⟨k, by omega⟩ (by simp only; omega)).2]
      dsimp only
      unfold Dat.kept
      rw [Pipeline.fill_of_clip_none (cfg := cfgM m hO) 7 _ (fun _ => rfl) d _, Pipeline.Window.fill_cut]

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (dats m hO 0 c).leavesExact 6 t
    ∗ (dats m hO 0 c).leavesExact 7 t)

set_option maxHeartbeats 800000 in
/-- The body at a point that computes. -/
theorem sound_live (hO : Ok m) (hT : Tab m) (c : Dev nD) (t : Fin (cfgM m hO).N) (ht : t.val < nn m) :
    bodyPre m hO c t ⊢ wp frame (wpE (defs₀ (F := F)) Variants.none c none) Set.univ (bodyAt0 (adm m hO) t) (fun _ => bodyPost m hO c t) := by
  have hc : Live c (grid0.coords t) (tbl m 1) := (live_iff m hT c _).2 (by rw [coords_val]; exact ht)
  have l6 : (dats m hO 0 c).leavesExact 6 t = owns (c : Thread nD τ) (ms0_6 m hO t) fullShare ((dats m hO 0 c).after 6 t) := by
    unfold Dat.leavesExact
    rw [show (cfgM m hO).idle 6 ((cfgM m hO).grid.coords t) = false from (idle_live m hO hT t ht).1]; try rfl
  have l7 : (dats m hO 0 c).leavesExact 7 t = owns (c : Thread nD τ) (ms0_7 m hO t) fullShare ((dats m hO 0 c).after 7 t) := by
    unfold Dat.leavesExact
    rw [show (cfgM m hO).idle 7 ((cfgM m hO).grid.coords t) = false from (idle_live m hO hT t ht).2]; try rfl
  have tc : tcap m hO t = t := Fin.ext (show min t.val (nn m - 1) = t.val by omega)
  unfold bodyPre bodyPost bodyAt0
  rw [l6, l7]
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, tc, outsD_live m hO c t hc]
  rw [show (dats m hO 0 c).Φ t.castSucc = iprop(Pipeline.ΦA spec0 c ∗ Pipeline.ΦT pre0 (tbl m) c) from rfl, PhiT0_eq, PhiA0_eq]
  unfold outsAt0
  unfold out0_A_6 out0_A_7; (try dsimp only)
  iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) (tbl m 1) hc).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HT0]; · iexact HT0
  isplitl [HT1]; · iexact HT1
  iintro ⟨H0, H1, H2, H3, H4, H5, ⟨%e6, H6⟩, ⟨%e7, H7⟩, ⟨%fT0, HS0⟩, ⟨%fT1, HS1⟩, HT0, HT1⟩
  isplitl [HS0 HS1 Hg HT0 HT1]
  · isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ hc)
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ hc)

set_option maxHeartbeats 800000 in
/-- The body at a point that computes nothing. -/
theorem sound_dead (hO : Ok m) (hT : Tab m) (c : Dev nD) (t : Fin (cfgM m hO).N) (ht : nn m ≤ t.val) :
    bodyPre m hO c t ⊢ wp frame (wpE (defs₀ (F := F)) Variants.none c none) Set.univ (bodyAt0 (adm m hO) t) (fun _ => bodyPost m hO c t) := by
  have hc : ¬ Live c (grid0.coords t) (tbl m 1) := mt (live_iff m hT c _).1 (by rw [coords_val]; omega)
  have b6 : ∀ d, (dats m hO 0 c).before 6 t d = (dats m hO 0 c).after 6 t := fun d => before6 m hO hT c d t.val t.isLt ht
  have b7 : ∀ d, (dats m hO 0 c).before 7 t d = (dats m hO 0 c).after 7 t := fun d => before7 m hO hT c d t.val t.isLt ht
  have l6 : (owns (c : Thread nD τ) (ms0_6 m hO t) fullShare ((dats m hO 0 c).after 6 t) : sProp 𝕄) ⊢ (dats m hO 0 c).leavesExact 6 t := by
    unfold Dat.leavesExact
    rw [show (cfgM m hO).idle 6 ((cfgM m hO).grid.coords t) = true from (idle_dead m hO hT t ht).1]
    dsimp only
    split
    · iintro H
      iexists (dats m hO 0 c).after 6 t
      rw [b6]
      iexact H
    · exact .rfl
  have l7 : (owns (c : Thread nD τ) (ms0_7 m hO t) fullShare ((dats m hO 0 c).after 7 t) : sProp 𝕄) ⊢ (dats m hO 0 c).leavesExact 7 t := by
    unfold Dat.leavesExact
    rw [show (cfgM m hO).idle 7 ((cfgM m hO).grid.coords t) = true from (idle_dead m hO hT t ht).2]
    dsimp only
    split
    · iintro H
      iexists (dats m hO 0 c).after 7 t
      rw [b7]
      iexact H
    · exact .rfl
  unfold bodyPre bodyPost bodyAt0
  simp only [before0_0, before0_1, before0_2, before0_3, before0_4, before0_5, b6, b7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨⟨⟨%ds0, HS0⟩, ⟨%ds1, HS1⟩⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun0_idle c (grid0.coords t) _ _ _ _ _ _ _ _ _ _ _ _ _ _ _ _ _ _ _ _ (iblk m hO c 0 t) (iblk m hO c 1 t) (iblk m hO c 2 t) (iblk m hO c 3 t) (iblk m hO c 4 t) (iblk m hO c 5 t) ((dats m hO 0 c).after 6 t) ((dats m hO 0 c).after 7 t) (tbl m 0) (tbl m 1) hc Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexists _; iexact HS0
  isplitl [HS1]; · iexists _; iexact HS1
  isplitl [HT0]; · iexact HT0
  isplitl [HT1]; · iexact HT1
  iintro ⟨H0, H1, H2, H3, H4, H5, H6, H7, HS0, HS1, HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply l6; iexact H6
  iapply l7; iexact H7

theorem sound_body (hO : Ok m) (hT : Tab m) (c : Dev nD) (t : Fin (cfgM m hO).N) :
    bodyPre m hO c t ⊢ wp frame (wpE (defs₀ (F := F)) Variants.none c none) Set.univ (bodyAt0 (adm m hO) t) (fun _ => bodyPost m hO c t) :=
  if h : t.val < nn m then sound_live m hO hT c t h else sound_dead m hO hT c t (by omega)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hT : Tab m) (c : Dev nD) : BodyObligation (dats (F := F) m hO 0 c) (defs₀ (F := F)) Variants.none () Set.univ := fun t => by
  rw [bigSep_W0, bigSep_W0, defs₀_row m hO]
  exact triple_restated (sound_body m hO hT c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hT : Tab m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hT c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hT : Tab m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hT)

/-- `frame` without the counters: the argument arrays end unchanged. -/
theorem unchanged (hO : Ok m) (hT : Tab m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO hT)

/-- The frame: every run ends, the arguments unchanged and every counter zero. -/
theorem frame (hO : Ok m) (hT : Tab m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hT) ((θ_run defs _ _).mono (fun _ h => h.2) (run_main_quiescent m ρ hO hT))

end Cert.Proof.RoutedBits

end
-- ==== Proof.RoutedClaims.lean ====
/- The frames of `routed_up`, before and after idealization, from the precondition. -/
module

public import proofs.«01_k».proof.Proof.RoutedPre
public import proofs.«01_k».proof.Proof.RoutedFrame
public import proofs.«01_k».proof.Proof.RoutedBitsFrame
public import proofs.«01_k».proof.Defs

@[expose] public section

noncomputable section

namespace Cert.Proof.RoutedClaims

open Idealize.ShloMosaic Idealize.ShloMosaic.TcCoe Idealize.SL.Sem

instance pre_facts : Cert.Pre_tables_valid.Facts := RoutedPre.pre_facts

/-- The precondition, read off the idealized kernel's tables. -/
theorem tab (m : (ℓ : Loc Cert.KernelIdeal.nD Cert.KernelIdeal.τ Cert.KernelIdeal.sig) → Buf (Elt Ideal) ℓ)
    (h : Cert.Pre_KernelIdeal m) : Cert.Proof.Routed.Tab m := by
  have h0 := RoutedPre.pre_tables _ _ _ _ _ _ _ _ (h 0)
  exact ⟨(h0.1 _).1, (h0.1 _).2, fun j => h0.2 _⟩

/-- The precondition, read off the kernel's tables. -/
theorem tab_bits (m : (ℓ : Loc Cert.Kernel.nD Cert.Kernel.τ Cert.Kernel.sig) → Buf (Elt Bits) ℓ)
    (h : Cert.Pre_Kernel m) : Cert.Proof.RoutedBits.Tab m := by
  have h0 := RoutedPre.pre_tables _ _ _ _ _ _ _ _ (h 0)
  exact ⟨(h0.1 _).1, (h0.1 _).2, fun j => h0.2 _⟩

theorem frame_bits : Cert.quiescent_Kernel (hKernel := Cert.Kernel.Gen.facts) (hPre_tables_valid := pre_facts) :=
  fun m ρ h => Cert.Proof.RoutedBits.frame m ρ (Cert.Proof.RoutedBits.ok_of m (tab_bits m h)) (tab_bits m h)

theorem frame_ideal : Cert.quiescent_KernelIdeal (hKernelIdeal := Cert.KernelIdeal.Gen.facts) (hPre_tables_valid := pre_facts) :=
  fun m ρ h => Cert.Proof.Routed.frame m ρ (Cert.Proof.Routed.ok_of m (tab m h)) (tab m h)

end Cert.Proof.RoutedClaims

end
-- ==== Proof.RoutedOn.lean ====
/- THE MASK of `routed_up`'s value claim, read as facts of the tables: a row or a tile is claimed when its tile is below the
   number of tiles in use. -/
module

public import proofs.«01_k».proof.On_tiles_computed
public import proofs.«01_k».proof.Proof.RoutedPre

@[expose] public section

set_option maxRecDepth 16384

noncomputable section

namespace Cert.Proof.RoutedPre

open Idealize.ShloMosaic

variable {F : FTy → Type} [FloatOps F]

theorem on_facts : Cert.On_tiles_computed.Facts where
  bcast_S_S212992x1536 := by decide
  shapeCasts_S1_S_ := by decide
  bcast_S_S416x4x128 := by decide

section
open Cert.On_tiles_computed
variable [Facts] (a0 : IVec S416 32) (a1 : IVec S1 32) (a2 : IVec S212992x768 32) (a3 : FVec F S416x4x128 .f32)
  (a4 a5 : FVec F S32x3072x1536 .fp8e4m3) (a6 a7 : FVec F S32x1x1536 .f32)

theorem small_toInt (k : ℕ) (hk : k < 2 ^ 31) : (BitVec.ofNat 32 k).toInt = k := by
  rw [BitVec.toInt_eq_toNat_of_lt (by rw [BitVec.toNat_ofNat]; omega), BitVec.toNat_ofNat]; omega

theorem div_512 (k : ℕ) (hk : k < 2 ^ 31) : IntOp.divsi .host (BitVec.ofNat 32 k) 512#32 = BitVec.ofNat 32 (k / 512) := by
  have e : (BitVec.ofNat 32 k).toNat = k := by rw [BitVec.toNat_ofNat]; omega
  unfold IntOp.divsi
  rw [if_neg (by unfold IntOp.SDivCorner; rintro (h | h) <;> simp_all)]
  have m1 : (BitVec.ofNat 32 k).msb = false := by rw [BitVec.msb_eq_false_iff_two_mul_lt, e]; omega
  have m2 : (512#32 : BitVec 32).msb = false := by decide
  rw [BitVec.sdiv_eq, m1, m2]
  apply BitVec.eq_of_toNat_eq
  show ((BitVec.ofNat 32 k) / 512#32).toNat = _
  rw [BitVec.toNat_udiv, e]
  show k / 512 = (BitVec.ofNat 32 (k / 512)).toNat
  rw [BitVec.toNat_ofNat]
  omega

/-- The rows of the codes that the mask selects. -/
theorem on_rows (x : S1.Idx) (hx : (a1 x).toNat < 2 ^ 31) (i : S212992x1536.Idx)
    (h : (Cert.On_tiles_computed.fn a0 a1 a2 a3 a4 a5 a6 a7).1 i = 1#1) : (i 0 : ℕ) / 512 < (a1 x).toNat := by
  have hi : (i 0 : ℕ) < 212992 := (i 0).isLt
  unfold Cert.On_tiles_computed.fn at h
  dsimp only at h
  have h1 : IntOp.cmpi .slt (BitVec.ofNat 32 ((i 0 : ℕ) / 512)) (a1 x) = 1#1 := by
    refine Eq.trans ?_ h
    refine congrArg₂ (IntOp.cmpi .slt) (div_512 _ (by omega)).symm (congrArg a1 ?_)
    funext a; fin_cases a; exact Subsingleton.elim (α := Fin 1) _ _
  rw [slt_iff, small_toInt _ (by omega), BitVec.toInt_eq_toNat_of_lt (by omega)] at h1
  omega

/-- The tiles of the scales that the mask selects. -/
theorem on_tiles (x : S1.Idx) (hx : (a1 x).toNat < 2 ^ 31) (i : S416x4x128.Idx)
    (h : (Cert.On_tiles_computed.fn a0 a1 a2 a3 a4 a5 a6 a7).2 i = 1#1) : (i 0 : ℕ) < (a1 x).toNat := by
  have hi : (i 0 : ℕ) < 416 := (i 0).isLt
  unfold Cert.On_tiles_computed.fn at h
  dsimp only at h
  have h1 : IntOp.cmpi .slt (BitVec.ofNat 32 (i 0 : ℕ)) (a1 x) = 1#1 := by
    refine Eq.trans ?_ h
    refine congrArg (IntOp.cmpi .slt _) (congrArg a1 ?_)
    funext a; fin_cases a; exact Subsingleton.elim (α := Fin 1) _ _
  rw [slt_iff, small_toInt _ (by omega), BitVec.toInt_eq_toNat_of_lt (by omega)] at h1
  omega
end

end Cert.Proof.RoutedPre

end
-- ==== Proof.RoutedArrays.lean ====
/- THE TWO RESULTS OF `routed_up` as functions of the argument arrays, row by row. The rows come as 32-bit words: row `r` of a
   group of 32 is found in the words' row `8 (r % 4) + r / 4`, and its entry `768 j + l` is byte `j` of the word in lane `l`. -/
module

public import proofs.«01_k».proof.Proof.Spec
public import proofs.«01_k».proof.Proof.Gen.KernelIdeal

@[expose] public section

noncomputable section

namespace Cert.Proof.RoutedArrays

open Cert.KernelIdeal Cert.Proof.Spec Idealize.ShloMosaic Idealize.ShloMosaic.TcCoe

/-- Byte `j` of a word, read as an fp8 number. -/
def byteVal (w : BitVec 32) (j : ℕ) : EReal := Ideal.ofBits .fp8e4m3 (w.extractLsb' (8 * j) 8)

variable (a0 : IVec S416 32) (a2 : IVec S212992x768 32) (a3 : Vec Ideal S416x4x128 .f32)
  (a4 a5 : Vec Ideal S32x3072x1536 .fp8e4m3) (a6 a7 : Vec Ideal S32x1x1536 .f32)

/-- The tile's expert (where the table holds a number below 32). -/
def expert (t : Fin 416) : Fin 32 := ⟨(a0 (ix1 t)).toNat % 32, Nat.mod_lt _ (by norm_num)⟩

/-- Entry `k` of row `r`. -/
def xA (r : Fin 212992) (k : Fin 3072) : EReal :=
  byteVal (a2 (ix2 ⟨32 * ((r : ℕ) / 32) + 8 * ((r : ℕ) % 4) + (r : ℕ) % 32 / 4, by omega⟩ ⟨(k : ℕ) % 768, by omega⟩)) ((k : ℕ) / 768)

/-- The gated product of row `r` at column `f`, with expert `e`. -/
def hE (e : Fin 32) (r : Fin 212992) (f : Fin 1536) : EReal :=
  hval (xA a2 r) (fun k => a4 (ix3 e k f)) (fun k => a5 (ix3 e k f))
    (a3 (ix3 ⟨(r : ℕ) / 512, by omega⟩ ⟨(r : ℕ) / 128 % 4, by omega⟩ ⟨(r : ℕ) % 128, by omega⟩)) (a6 (ix3 e 0 f)) (a7 (ix3 e 0 f))

/-- The gated product of row `r` at column `f`, with the expert of the row's tile. -/
def hA (r : Fin 212992) (f : Fin 1536) : EReal := hE a2 a3 a4 a5 a6 a7 (expert a0 ⟨(r : ℕ) / 512, by omega⟩) r f

/-- The codes. -/
def codes : Vec Ideal S212992x1536 .fp8e4m3 := fun y => codeRow (hA a0 a2 a3 a4 a5 a6 a7 (y 0)) (y 1)

/-- The scales: row `512 t + 128 k + l` at entry `(t, k, l)`. -/
def scales : Vec Ideal S416x4x128 .f32 := fun y => scaleRow (hA a0 a2 a3 a4 a5 a6 a7 ⟨512 * (y 0 : ℕ) + 128 * (y 1 : ℕ) + (y 2 : ℕ), by
  have h0 := (y 0).isLt; have h1 := (y 1).isLt; have h2 := (y 2).isLt; simp at h0 h1 h2; omega⟩)

end Cert.Proof.RoutedArrays

end
-- ==== Proof.RoutedBytes.lean ====
/- THE KERNEL'S UNPACKING of the words of one tile: four rows' words are regrouped with masks and shifts, so that the bytes of
   a word are the four rows' entries in one column; reading the words as bytes then gives the rows in order. -/
module

public import proofs.«01_k».proof.Proof.RoutedArrays
public import proofs.«01_k».proof.Proof.RoutedFrame
public import Idealize.ShloMosaic.Lib.BitcastPair

@[expose] public section

set_option maxRecDepth 16384

noncomputable section

namespace Cert.Proof.Routed

open Cert.KernelIdeal Cert.KernelIdeal.Gen Cert.Proof.Spec Cert.Proof.RoutedArrays Idealize.ShloMosaic Idealize.ShloMosaic.TcCoe

/-- Words read as bytes: row `4 a + b` of the bytes is byte `b` of the words' row `a`. -/
theorem bytes_at (x : IVec S128x768 32) (j : S512x768.Idx) :
    bitcast S512x768 8 x bitcasts_S128x768_w32_S512x768_w8 j
      = (x (ix2 ⟨(j 0 : ℕ) / 4, by have h := (j 0).isLt; simp at h; omega⟩ (j 1))).extractLsb' (8 * ((j 0 : ℕ) % 4)) 8 := by
  have h := bitcasts_S128x768_w32_S512x768_w8
  have hr : S512x768.row j = (j 0 : ℕ) := rfl
  apply BitVec.eq_of_getLsbD_eq
  intro i hi
  have e1 : (S512x768.row j * 8 + i) / 32 = (j 0 : ℕ) / 4 := by rw [hr]; omega
  have e2 : (S512x768.row j * 8 + i) % 32 = 8 * ((j 0 : ℕ) % 4) + i := by rw [hr]; omega
  rw [bitcast_getLsbD x h j i hi (by decide), BitVec.getLsbD_extractLsb', e2]
  simp only [hi, decide_true, Bool.true_and]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The words' row of row `q` of part `b`. -/
def part (x0 : Vec Ideal S512x768 .i32) (b : Fin 4) (j : S128x768.Idx) : BitVec 32 :=
  x0 (ix2 ⟨(j 0 : ℕ) / 8 * 32 + 8 * (b : ℕ) + (j 0 : ℕ) % 8, by have h := (j 0).isLt; simp at h; omega⟩ (j 1))

theorem part0 (x0 : Vec Ideal S512x768 .i32) (j : S128x768.Idx) : k0_pay3 (F := Ideal) x0 j = part x0 0 j := by
  pointwise [k0_pay3, k0_pay2, part]
theorem part1 (x0 : Vec Ideal S512x768 .i32) (j : S128x768.Idx) : k0_pay4 (F := Ideal) x0 j = part x0 1 j := by
  pointwise [k0_pay4, k0_pay2, part]
theorem part2 (x0 : Vec Ideal S512x768 .i32) (j : S128x768.Idx) : k0_pay5 (F := Ideal) x0 j = part x0 2 j := by
  pointwise [k0_pay5, k0_pay2, part]
theorem part3 (x0 : Vec Ideal S512x768 .i32) (j : S128x768.Idx) : k0_pay6 (F := Ideal) x0 j = part x0 3 j := by
  pointwise [k0_pay6, k0_pay2, part]

/-- The four regroupings of four words: in the `j`-th, byte `b` is byte `j` of word `b`. -/
theorem byte0 (w : Fin 4 → BitVec 32) (b : Fin 4) :
    (IntOp.ori (IntOp.andi (IntOp.ori (IntOp.andi (w 0) 16711935#32) (IntOp.shli .vector (IntOp.andi (w 1) 16711935#32) 8#32)) 65535#32)
      (IntOp.shli .vector (IntOp.ori (IntOp.andi (w 2) 16711935#32) (IntOp.shli .vector (IntOp.andi (w 3) 16711935#32) 8#32)) 16#32)).extractLsb' (8 * (b : ℕ)) 8
    = (w b).extractLsb' (8 * 0) 8 := by
  fin_cases b <;> (apply BitVec.eq_of_getLsbD_eq; intro i hi; interval_cases i <;> simp [IntOp.ori, IntOp.andi, IntOp.shli, IntOp.shrui])

theorem byte1 (w : Fin 4 → BitVec 32) (b : Fin 4) :
    (IntOp.ori (IntOp.andi (IntOp.ori (IntOp.andi (IntOp.shrui .vector (w 0) 8#32) 16711935#32) (IntOp.andi (w 1) 4278255360#32)) 65535#32)
      (IntOp.shli .vector (IntOp.ori (IntOp.andi (IntOp.shrui .vector (w 2) 8#32) 16711935#32) (IntOp.andi (w 3) 4278255360#32)) 16#32)).extractLsb' (8 * (b : ℕ)) 8
    = (w b).extractLsb' (8 * 1) 8 := by
  fin_cases b <;> (apply BitVec.eq_of_getLsbD_eq; intro i hi; interval_cases i <;> simp [IntOp.ori, IntOp.andi, IntOp.shli, IntOp.shrui])

theorem byte2 (w : Fin 4 → BitVec 32) (b : Fin 4) :
    (IntOp.ori (IntOp.shrui .vector (IntOp.ori (IntOp.andi (w 0) 16711935#32) (IntOp.shli .vector (IntOp.andi (w 1) 16711935#32) 8#32)) 16#32)
      (IntOp.andi (IntOp.ori (IntOp.andi (w 2) 16711935#32) (IntOp.shli .vector (IntOp.andi (w 3) 16711935#32) 8#32)) 4294901760#32)).extractLsb' (8 * (b : ℕ)) 8
    = (w b).extractLsb' (8 * 2) 8 := by
  fin_cases b <;> (apply BitVec.eq_of_getLsbD_eq; intro i hi; interval_cases i <;> simp [IntOp.ori, IntOp.andi, IntOp.shli, IntOp.shrui])

theorem byte3 (w : Fin 4 → BitVec 32) (b : Fin 4) :
    (IntOp.ori (IntOp.shrui .vector (IntOp.ori (IntOp.andi (IntOp.shrui .vector (w 0) 8#32) 16711935#32) (IntOp.andi (w 1) 4278255360#32)) 16#32)
      (IntOp.andi (IntOp.ori (IntOp.andi (IntOp.shrui .vector (w 2) 8#32) 16711935#32) (IntOp.andi (w 3) 4278255360#32)) 4294901760#32)).extractLsb' (8 * (b : ℕ)) 8
    = (w b).extractLsb' (8 * 3) 8 := by
  fin_cases b <;> (apply BitVec.eq_of_getLsbD_eq; intro i hi; interval_cases i <;> simp [IntOp.ori, IntOp.andi, IntOp.shli, IntOp.shrui])

/-- Entry `k` of the block's row `r`. -/
def xB (x0 : Vec Ideal S512x768 .i32) (r : Fin 512) (k : Fin 3072) : EReal :=
  byteVal (x0 (ix2 ⟨(r : ℕ) / 32 * 32 + 8 * ((r : ℕ) % 4) + (r : ℕ) % 32 / 4, by omega⟩ ⟨(k : ℕ) % 768, by omega⟩)) ((k : ℕ) / 768)

/-- The word of part `r % 4` at row `r / 4` is the one that holds row `r`. -/
theorem part_row (x0 : Vec Ideal S512x768 .i32) (j : S512x768.Idx) (c : ℕ) (hc : c < 4) (k : Fin 3072) (hk : (k : ℕ) = 768 * c + (j 1 : ℕ)) :
    Ideal.ofBits .fp8e4m3 ((part x0 ⟨(j 0 : ℕ) % 4, Nat.mod_lt _ (by norm_num)⟩
      (ix2 ⟨(j 0 : ℕ) / 4, by have h := (j 0).isLt; simp at h; omega⟩ (j 1))).extractLsb' (8 * c) 8) = xB x0 (j 0) k := by
  have h0 : (j 0 : ℕ) < 512 := (j 0).isLt
  have h1 : (j 1 : ℕ) < 768 := (j 1).isLt
  unfold xB byteVal part
  have e1 : (k : ℕ) / 768 = c := by omega
  have e2 : (k : ℕ) % 768 = (j 1 : ℕ) := by omega
  rw [e1]
  refine congrArg (fun w : BitVec 32 => Ideal.ofBits .fp8e4m3 (w.extractLsb' (8 * c) 8)) (congrArg x0 ?_)
  refine congrArg₂ ix2 (Fin.ext ?_) (Fin.ext e2.symm)
  show (j 0 : ℕ) / 4 / 8 * 32 + 8 * ((j 0 : ℕ) % 4) + (j 0 : ℕ) / 4 % 8 = (j 0 : ℕ) / 32 * 32 + 8 * ((j 0 : ℕ) % 4) + (j 0 : ℕ) % 32 / 4
  omega

theorem x8_0 (x0 : Vec Ideal S512x768 .i32) (j : S512x768.Idx) (k : Fin 3072) (hk : (k : ℕ) = 768 * 0 + (j 1 : ℕ)) :
    k0_pay12 (F := Ideal) (k0_pay9 x0) (k0_pay11 x0) 16#32 j = xB x0 (j 0) k := by
  unfold k0_pay12
  rw [Rows.cast_self]
  refine Eq.trans ?_ (part_row x0 j 0 (by norm_num) k hk)
  refine congrArg (Ideal.ofBits .fp8e4m3) ((bytes_at _ j).trans ?_)
  simp only [k0_pay9, k0_pay11, k0_pay7, ori, andi, shli, shrui, broadcast, part0, part1, part2, part3]
  exact byte0 (fun b => part x0 b _) ⟨(j 0 : ℕ) % 4, Nat.mod_lt _ (by norm_num)⟩

theorem x8_1 (x0 : Vec Ideal S512x768 .i32) (j : S512x768.Idx) (k : Fin 3072) (hk : (k : ℕ) = 768 * 1 + (j 1 : ℕ)) :
    k0_pay13 (F := Ideal) (k0_pay8 x0) (k0_pay10 x0) j = xB x0 (j 0) k := by
  unfold k0_pay13
  rw [Rows.cast_self]
  refine Eq.trans ?_ (part_row x0 j 1 (by norm_num) k hk)
  refine congrArg (Ideal.ofBits .fp8e4m3) ((bytes_at _ j).trans ?_)
  simp only [k0_pay8, k0_pay10, ori, andi, shli, shrui, broadcast, part0, part1, part2, part3]
  exact byte1 (fun b => part x0 b _) ⟨(j 0 : ℕ) % 4, Nat.mod_lt _ (by norm_num)⟩

theorem x8_2 (x0 : Vec Ideal S512x768 .i32) (j : S512x768.Idx) (k : Fin 3072) (hk : (k : ℕ) = 768 * 2 + (j 1 : ℕ)) :
    k0_pay14 (F := Ideal) (k0_pay7 x0) (k0_pay9 x0) j = xB x0 (j 0) k := by
  unfold k0_pay14
  rw [Rows.cast_self]
  refine Eq.trans ?_ (part_row x0 j 2 (by norm_num) k hk)
  refine congrArg (Ideal.ofBits .fp8e4m3) ((bytes_at _ j).trans ?_)
  simp only [k0_pay7, k0_pay9, ori, andi, shli, shrui, broadcast, part0, part1, part2, part3]
  exact byte2 (fun b => part x0 b _) ⟨(j 0 : ℕ) % 4, Nat.mod_lt _ (by norm_num)⟩

theorem x8_3 (x0 : Vec Ideal S512x768 .i32) (j : S512x768.Idx) (k : Fin 3072) (hk : (k : ℕ) = 768 * 3 + (j 1 : ℕ)) :
    k0_pay15 (F := Ideal) (k0_pay8 x0) (k0_pay10 x0) j = xB x0 (j 0) k := by
  unfold k0_pay15
  rw [Rows.cast_self]
  refine Eq.trans ?_ (part_row x0 j 3 (by norm_num) k hk)
  refine congrArg (Ideal.ofBits .fp8e4m3) ((bytes_at _ j).trans ?_)
  simp only [k0_pay8, k0_pay10, ori, andi, shli, shrui, broadcast, part0, part1, part2, part3]
  exact byte3 (fun b => part x0 b _) ⟨(j 0 : ℕ) % 4, Nat.mod_lt _ (by norm_num)⟩

end Cert.Proof.Routed

end
-- ==== Proof.RoutedBlock.lean ====
/- WHAT ONE GRID POINT OF `routed_up` WRITES: the codes and the scales of its 512 rows, as functions of the point's input
   blocks (`out6`, `out7`). The body unpacks the rows, works through six column blocks of 256, keeps each block's gated
   product in a scratch buffer and a running maximum in 128 lanes; here the six blocks are one function of the column (`hB`). -/
module

public import proofs.«01_k».proof.Proof.RoutedBytes

@[expose] public section

set_option maxRecDepth 16384

noncomputable section

namespace Cert.Proof.Routed

open Cert.KernelIdeal Cert.KernelIdeal.Gen Cert.Proof.Spec Cert.Proof.RoutedArrays Idealize.ShloMosaic Idealize.ShloMosaic.TcCoe Idealize.SL.Sem

/-- The gated product of the block's row `r` at column `f`. -/
def hB (X : Vec Ideal S512x3072 .fp8e4m3) (x1 : Vec Ideal S1x4x128 .f32) (x2 x3 : Vec Ideal S1x3072x1536 .fp8e4m3)
    (x4 x5 : Vec Ideal S1x1x1536 .f32) (r : Fin 512) (f : Fin 1536) : EReal :=
  hval (fun k => X (ix2 r k)) (fun k => x2 (ix3 0 k f)) (fun k => x3 (ix3 0 k f))
    (x1 (ix3 0 ⟨(r : ℕ) / 128, by omega⟩ ⟨(r : ℕ) % 128, by omega⟩)) (x4 (ix3 0 0 f)) (x5 (ix3 0 0 f))

/-- The block's rows, unpacked. -/
def X8 (x0 : Vec Ideal S512x768 .i32) : Vec Ideal S512x3072 .fp8e4m3 := fun j => xB x0 (j 0) (j 1)

variable (c : Dev nD) (i : grid0.Coords) (arg3 : Memref sig .tc .vmem S512x768 .i32) (harg3 : arg3.IsWhole) (arg4 : Memref sig .tc .vmem S1x4x128 .f32) (harg4 : arg4.IsWhole) (arg5 : Memref sig .tc .vmem S1x3072x1536 .fp8e4m3) (harg5 : arg5.IsWhole) (arg6 : Memref sig .tc .vmem S1x3072x1536 .fp8e4m3) (harg6 : arg6.IsWhole) (arg7 : Memref sig .tc .vmem S1x1x1536 .f32) (harg7 : arg7.IsWhole) (arg8 : Memref sig .tc .vmem S1x1x1536 .f32) (harg8 : arg8.IsWhole) (arg9 : Memref sig .tc .vmem S512x1536 .fp8e4m3) (harg9 : arg9.IsWhole) (arg10 : Memref sig .tc .vmem S1x4x128 .f32) (harg10 : arg10.IsWhole) (arg11 : Memref sig .tc .vmem S512x3072 .fp8e4m3) (harg11 : arg11.IsWhole) (arg12 : Memref sig .tc .vmem S512x1536 .f32) (harg12 : arg12.IsWhole)
    (x0 : Vec Ideal S512x768 .i32) (X : Vec Ideal S512x3072 .fp8e4m3) (x1 : Vec Ideal S1x4x128 .f32) (x2 x3 : Vec Ideal S1x3072x1536 .fp8e4m3)
    (x4 x5 : Vec Ideal S1x1x1536 .f32)

theorem hz : (![0, 0] : Fin 2 → Nat) = fun _ => 0 := funext fun a => by fin_cases a <;> rfl

/-- The row scales of the block, copied along 256 columns. -/
def sB : FVec Ideal S512x256 .f32 := fun j =>
  x1 (ix3 0 ⟨(j 0 : ℕ) / 128, by have := (j 0).isLt; simp at this; omega⟩ ⟨(j 0 : ℕ) % 128, by omega⟩)

theorem scale_copied (j : S512x256.Idx) : k0_pay17 (F := Ideal) (k0_pay16 (View.ld x1 (Rect.unit ![0, 0, 0] S1x1x128.size inb_S1x4x128_S1x1x128_0_0_0))) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) j = sB x1 j := by
  pointwise [k0_pay17, k0_pay16, sB]
  blk_point []

theorem scale_eq : k0_pay17 (F := Ideal) (k0_pay16 (View.ld x1 (Rect.unit ![0, 0, 0] S1x1x128.size inb_S1x4x128_S1x1x128_0_0_0))) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) = sB x1 := funext (scale_copied x1)

/-- The unpacked rows, read back from their scratch buffer. -/
theorem unpacked : kernelRun0_A.sl.v82 (F := Ideal) c arg3 harg3 arg11 x0 = X8 x0 := by
  unfold kernelRun0_A.sl.v82
  rw [View.readCov_eq_canon']
  funext j
  have hc : View.canon (kernelRun0_A.sl.HS0_4 (F := Ideal) c arg3 harg3 x0) = X8 x0 := by
    funext j
    refine View.canon_apply_of_pieces (X8 x0) _ ?_ j
      (View.cover_of_tiledL (kernelRun0_A.sl.HS0_4 (F := Ideal) c arg3 harg3 x0) S512x768.size (by sl_kernel_rfl) j)
    intro pc hpc
    simp only [kernelRun0_A.sl.HS0_4, kernelRun0_A.sl.r_1, kernelRun0_A.sl.r_2, kernelRun0_A.sl.r_3, kernelRun0_A.sl.r_4, kernelRun0_A.sl.r_5, View.readAt_eq_ld, harg3.read_unread] at hpc
    erw [View.ld_unit_zero hz] at hpc
    simp only [List.mem_cons, List.not_mem_nil, or_false] at hpc
    rcases hpc with rfl | rfl | rfl | rfl <;> intro x
    · refine (x8_3 x0 x ⟨2304 + (x 1 : ℕ), by have h := (x 1).isLt; simp at h; omega⟩ rfl).trans ?_
      exact congrArg₂ (xB x0) (Fin.ext (by show _ = 0 + 1 * (x 0 : ℕ); omega)) (Fin.ext (by show _ = 2304 + 1 * (x 1 : ℕ); show 2304 + (x 1 : ℕ) = _; omega))
    · refine (x8_2 x0 x ⟨1536 + (x 1 : ℕ), by have h := (x 1).isLt; simp at h; omega⟩ rfl).trans ?_
      exact congrArg₂ (xB x0) (Fin.ext (by show _ = 0 + 1 * (x 0 : ℕ); omega)) (Fin.ext (by show _ = 1536 + 1 * (x 1 : ℕ); show 1536 + (x 1 : ℕ) = _; omega))
    · refine (x8_1 x0 x ⟨768 + (x 1 : ℕ), by have h := (x 1).isLt; simp at h; omega⟩ rfl).trans ?_
      exact congrArg₂ (xB x0) (Fin.ext (by show _ = 0 + 1 * (x 0 : ℕ); omega)) (Fin.ext (by show _ = 768 + 1 * (x 1 : ℕ); show 768 + (x 1 : ℕ) = _; omega))
    · refine (x8_0 x0 x ⟨0 + (x 1 : ℕ), by have h := (x 1).isLt; simp at h; omega⟩ rfl).trans ?_
      exact congrArg₂ (xB x0) (Fin.ext (by show _ = 0 + 1 * (x 0 : ℕ); omega)) (Fin.ext (by show _ = 0 + 1 * (x 1 : ℕ); show 0 + (x 1 : ℕ) = _; omega))
  rw [hc]
  exact congrArg₂ (xB x0) (Fin.ext (by show 0 + 1 * (j 0 : ℕ) = (j 0 : ℕ); omega)) (Fin.ext (by show 0 + 1 * (j 1 : ℕ) = (j 1 : ℕ); omega))

/-- Column block 0: columns 0 to 255. -/
theorem block0 (j : S512x256.Idx) : k0_pay22 (F := Ideal) (k0_pay19 X (k0_pay16 (View.ld x1 (Rect.unit ![0, 0, 0] S1x1x128.size inb_S1x4x128_S1x1x128_0_0_0))) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x2 (Rect.unit ![0, 0, 0] S1x3072x256.size inb_S1x3072x1536_S1x3072x256_0_0_0)) (View.ld x4 (Rect.unit ![0, 0, 0] S1x1x256.size inb_S1x1x1536_S1x1x256_0_0_0))) (k0_pay20 X (k0_pay16 (View.ld x1 (Rect.unit ![0, 0, 0] S1x1x128.size inb_S1x4x128_S1x1x128_0_0_0))) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x3 (Rect.unit ![0, 0, 0] S1x3072x256.size inb_S1x3072x1536_S1x3072x256_0_0_0))) (k0_pay21 (View.ld x5 (Rect.unit ![0, 0, 0] S1x1x256.size inb_S1x1x1536_S1x1x256_0_0_0))) j
    = hB X x1 x2 x3 x4 x5 (j 0) ⟨0 + (j 1 : ℕ), by have := (j 1).isLt; simp at this; omega⟩ := by
  unfold k0_pay19 k0_pay20
  rw [scale_eq]
  pointwise [k0_pay22, k0_pay21, hB, hval, sB]

/-- Column block 1: columns 256 to 511. -/
theorem block1 (j : S512x256.Idx) : k0_pay24 (F := Ideal) X (sB x1) (View.ld x2 (Rect.unit ![0, 0, 256] S1x3072x256.size inb_S1x3072x1536_S1x3072x256_0_0_256)) (View.ld x4 (Rect.unit ![0, 0, 256] S1x1x256.size inb_S1x1x1536_S1x1x256_0_0_256)) (View.ld x3 (Rect.unit ![0, 0, 256] S1x3072x256.size inb_S1x3072x1536_S1x3072x256_0_0_256)) (View.ld x5 (Rect.unit ![0, 0, 256] S1x1x256.size inb_S1x1x1536_S1x1x256_0_0_256)) j
    = hB X x1 x2 x3 x4 x5 (j 0) ⟨256 + (j 1 : ℕ), by have := (j 1).isLt; simp at this; omega⟩ := by
  pointwise [k0_pay24, hB, hval, sB]

/-- Column block 2: columns 512 to 767. -/
theorem block2 (j : S512x256.Idx) : k0_pay27 (F := Ideal) X (sB x1) (View.ld x2 (Rect.unit ![0, 0, 512] S1x3072x256.size inb_S1x3072x1536_S1x3072x256_0_0_512)) (View.ld x4 (Rect.unit ![0, 0, 512] S1x1x256.size inb_S1x1x1536_S1x1x256_0_0_512)) (View.ld x3 (Rect.unit ![0, 0, 512] S1x3072x256.size inb_S1x3072x1536_S1x3072x256_0_0_512)) (View.ld x5 (Rect.unit ![0, 0, 512] S1x1x256.size inb_S1x1x1536_S1x1x256_0_0_512)) j
    = hB X x1 x2 x3 x4 x5 (j 0) ⟨512 + (j 1 : ℕ), by have := (j 1).isLt; simp at this; omega⟩ := by
  pointwise [k0_pay27, hB, hval, sB]

/-- Column block 3: columns 768 to 1023. -/
theorem block3 (j : S512x256.Idx) : k0_pay31 (F := Ideal) X (sB x1) (k0_pay30 X (sB x1) (View.ld x2 (Rect.unit ![0, 0, 768] S1x3072x256.size inb_S1x3072x1536_S1x3072x256_0_0_768)) (View.ld x4 (Rect.unit ![0, 0, 768] S1x1x256.size inb_S1x1x1536_S1x1x256_0_0_768))) (View.ld x3 (Rect.unit ![0, 0, 768] S1x3072x256.size inb_S1x3072x1536_S1x3072x256_0_0_768)) (View.ld x5 (Rect.unit ![0, 0, 768] S1x1x256.size inb_S1x1x1536_S1x1x256_0_0_768)) j
    = hB X x1 x2 x3 x4 x5 (j 0) ⟨768 + (j 1 : ℕ), by have := (j 1).isLt; simp at this; omega⟩ := by
  pointwise [k0_pay31, k0_pay30, hB, hval, sB]

/-- Column block 4: columns 1024 to 1279. -/
theorem block4 (j : S512x256.Idx) : k0_pay34 (F := Ideal) X (sB x1) (View.ld x2 (Rect.unit ![0, 0, 1024] S1x3072x256.size inb_S1x3072x1536_S1x3072x256_0_0_1024)) (View.ld x4 (Rect.unit ![0, 0, 1024] S1x1x256.size inb_S1x1x1536_S1x1x256_0_0_1024)) (View.ld x3 (Rect.unit ![0, 0, 1024] S1x3072x256.size inb_S1x3072x1536_S1x3072x256_0_0_1024)) (View.ld x5 (Rect.unit ![0, 0, 1024] S1x1x256.size inb_S1x1x1536_S1x1x256_0_0_1024)) j
    = hB X x1 x2 x3 x4 x5 (j 0) ⟨1024 + (j 1 : ℕ), by have := (j 1).isLt; simp at this; omega⟩ := by
  pointwise [k0_pay34, hB, hval, sB]

/-- Column block 5: columns 1280 to 1535. -/
theorem block5 (j : S512x256.Idx) : k0_pay36 (F := Ideal) X (sB x1) (View.ld x2 (Rect.unit ![0, 0, 1280] S1x3072x256.size inb_S1x3072x1536_S1x3072x256_0_0_1280)) (View.ld x4 (Rect.unit ![0, 0, 1280] S1x1x256.size inb_S1x1x1536_S1x1x256_0_0_1280)) (View.ld x3 (Rect.unit ![0, 0, 1280] S1x3072x256.size inb_S1x3072x1536_S1x3072x256_0_0_1280)) (View.ld x5 (Rect.unit ![0, 0, 1280] S1x1x256.size inb_S1x1x1536_S1x1x256_0_0_1280)) j
    = hB X x1 x2 x3 x4 x5 (j 0) ⟨1280 + (j 1 : ℕ), by have := (j 1).isLt; simp at this; omega⟩ := by
  pointwise [k0_pay36, hB, hval, sB]

/-- The scratch buffer after the six blocks. -/
theorem scratch_at (j : S512x1536.Idx) : View.canon (kernelRun0_A.sl.HS1_6 (F := Ideal) c arg3 harg3 arg4 harg4 arg5 harg5 arg6 harg6 arg7 harg7 arg8 harg8 arg11 x0 x1 x2 x3 x4 x5) j = hB (X8 x0) x1 x2 x3 x4 x5 (j 0) (j 1) := by
  refine View.canon_apply_of_pieces (fun j => hB (X8 x0) x1 x2 x3 x4 x5 (j 0) (j 1)) _ ?_ j
    (View.cover_of_tiledL (kernelRun0_A.sl.HS1_6 (F := Ideal) c arg3 harg3 arg4 harg4 arg5 harg5 arg6 harg6 arg7 harg7 arg8 harg8 arg11 x0 x1 x2 x3 x4 x5) S512x256.size (by sl_kernel_rfl) j)
  intro pc hpc
  simp only [kernelRun0_A.sl.HS1_6, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, unpacked, View.readAt_eq_ld, harg4.read_unread, harg5.read_unread, harg6.read_unread, harg7.read_unread, harg8.read_unread, scale_eq] at hpc
  simp only [List.mem_cons, List.not_mem_nil, or_false] at hpc
  rcases hpc with rfl | rfl | rfl | rfl | rfl | rfl <;> intro x
  · show k0_pay37 (F := Ideal) _ _ _ _ _ _ x = _
    unfold k0_pay37
    rw [Rows.cast_self, block5]
    exact congrArg₂ (hB (X8 x0) x1 x2 x3 x4 x5) (Fin.ext (by show _ = 0 + 1 * (x 0 : ℕ); omega)) (Fin.ext (by show _ = 1280 + 1 * (x 1 : ℕ); show 1280 + (x 1 : ℕ) = _; omega))
  · refine (Rows.cast_self (k0_pay34 (F := Ideal) (X8 x0) (sB x1) (View.ld x2 (Rect.unit ![0, 0, 1024] S1x3072x256.size inb_S1x3072x1536_S1x3072x256_0_0_1024)) (View.ld x4 (Rect.unit ![0, 0, 1024] S1x1x256.size inb_S1x1x1536_S1x1x256_0_0_1024)) (View.ld x3 (Rect.unit ![0, 0, 1024] S1x3072x256.size inb_S1x3072x1536_S1x3072x256_0_0_1024)) (View.ld x5 (Rect.unit ![0, 0, 1024] S1x1x256.size inb_S1x1x1536_S1x1x256_0_0_1024))) _ x).trans ?_
    rw [block4]
    exact congrArg₂ (hB (X8 x0) x1 x2 x3 x4 x5) (Fin.ext (by show _ = 0 + 1 * (x 0 : ℕ); omega)) (Fin.ext (by show _ = 1024 + 1 * (x 1 : ℕ); show 1024 + (x 1 : ℕ) = _; omega))
  · show k0_pay32 (F := Ideal) _ _ _ _ _ x = _
    unfold k0_pay32
    rw [Rows.cast_self, block3]
    exact congrArg₂ (hB (X8 x0) x1 x2 x3 x4 x5) (Fin.ext (by show _ = 0 + 1 * (x 0 : ℕ); omega)) (Fin.ext (by show _ = 768 + 1 * (x 1 : ℕ); show 768 + (x 1 : ℕ) = _; omega))
  · show k0_pay28 (F := Ideal) _ _ _ _ _ _ x = _
    unfold k0_pay28
    rw [Rows.cast_self, block2]
    exact congrArg₂ (hB (X8 x0) x1 x2 x3 x4 x5) (Fin.ext (by show _ = 0 + 1 * (x 0 : ℕ); omega)) (Fin.ext (by show _ = 512 + 1 * (x 1 : ℕ); show 512 + (x 1 : ℕ) = _; omega))
  · show k0_pay25 (F := Ideal) _ _ _ _ _ _ x = _
    unfold k0_pay25
    rw [Rows.cast_self, block1]
    exact congrArg₂ (hB (X8 x0) x1 x2 x3 x4 x5) (Fin.ext (by show _ = 0 + 1 * (x 0 : ℕ); omega)) (Fin.ext (by show _ = 256 + 1 * (x 1 : ℕ); show 256 + (x 1 : ℕ) = _; omega))
  · show k0_pay23 (F := Ideal) _ _ _ x = _
    unfold k0_pay23
    rw [Rows.cast_self, block0]
    exact congrArg₂ (hB (X8 x0) x1 x2 x3 x4 x5) (Fin.ext (by show _ = 0 + 1 * (x 0 : ℕ); omega)) (Fin.ext (by show _ = 0 + 1 * (x 1 : ℕ); show 0 + (x 1 : ℕ) = _; omega))

/-- The row maximum times the constant for 1/448. -/
theorem amax_at (j : S512x1.Idx) : k0_pay40 (F := Ideal) (k0_pay38 (F := Ideal) X (sB x1) (k0_pay33 X (sB x1) (k0_pay29 X (sB x1) (k0_pay26 X (sB x1) k0_pay18 (k0_pay19 X (k0_pay16 (View.ld x1 (Rect.unit ![0, 0, 0] S1x1x128.size inb_S1x4x128_S1x1x128_0_0_0))) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x2 (Rect.unit ![0, 0, 0] S1x3072x256.size inb_S1x3072x1536_S1x3072x256_0_0_0)) (View.ld x4 (Rect.unit ![0, 0, 0] S1x1x256.size inb_S1x1x1536_S1x1x256_0_0_0))) (k0_pay20 X (k0_pay16 (View.ld x1 (Rect.unit ![0, 0, 0] S1x1x128.size inb_S1x4x128_S1x1x128_0_0_0))) (View.ld x1 (Rect.unit ![0, 1, 0] S1x1x128.size inb_S1x4x128_S1x1x128_0_1_0)) (View.ld x1 (Rect.unit ![0, 2, 0] S1x1x128.size inb_S1x4x128_S1x1x128_0_2_0)) (View.ld x1 (Rect.unit ![0, 3, 0] S1x1x128.size inb_S1x4x128_S1x1x128_0_3_0)) (View.ld x3 (Rect.unit ![0, 0, 0] S1x3072x256.size inb_S1x3072x1536_S1x3072x256_0_0_0))) (k0_pay21 (View.ld x5 (Rect.unit ![0, 0, 0] S1x1x256.size inb_S1x1x1536_S1x1x256_0_0_0))) (View.ld x2 (Rect.unit ![0, 0, 256] S1x3072x256.size inb_S1x3072x1536_S1x3072x256_0_0_256)) (View.ld x4 (Rect.unit ![0, 0, 256] S1x1x256.size inb_S1x1x1536_S1x1x256_0_0_256)) (View.ld x3 (Rect.unit ![0, 0, 256] S1x3072x256.size inb_S1x3072x1536_S1x3072x256_0_0_256)) (View.ld x5 (Rect.unit ![0, 0, 256] S1x1x256.size inb_S1x1x1536_S1x1x256_0_0_256))) (View.ld x2 (Rect.unit ![0, 0, 512] S1x3072x256.size inb_S1x3072x1536_S1x3072x256_0_0_512)) (View.ld x4 (Rect.unit ![0, 0, 512] S1x1x256.size inb_S1x1x1536_S1x1x256_0_0_512)) (View.ld x3 (Rect.unit ![0, 0, 512] S1x3072x256.size inb_S1x3072x1536_S1x3072x256_0_0_512)) (View.ld x5 (Rect.unit ![0, 0, 512] S1x1x256.size inb_S1x1x1536_S1x1x256_0_0_512))) (k0_pay30 X (sB x1) (View.ld x2 (Rect.unit ![0, 0, 768] S1x3072x256.size inb_S1x3072x1536_S1x3072x256_0_0_768)) (View.ld x4 (Rect.unit ![0, 0, 768] S1x1x256.size inb_S1x1x1536_S1x1x256_0_0_768))) (View.ld x3 (Rect.unit ![0, 0, 768] S1x3072x256.size inb_S1x3072x1536_S1x3072x256_0_0_768)) (View.ld x5 (Rect.unit ![0, 0, 768] S1x1x256.size inb_S1x1x1536_S1x1x256_0_0_768))) (k0_pay34 X (sB x1) (View.ld x2 (Rect.unit ![0, 0, 1024] S1x3072x256.size inb_S1x3072x1536_S1x3072x256_0_0_1024)) (View.ld x4 (Rect.unit ![0, 0, 1024] S1x1x256.size inb_S1x1x1536_S1x1x256_0_0_1024)) (View.ld x3 (Rect.unit ![0, 0, 1024] S1x3072x256.size inb_S1x3072x1536_S1x3072x256_0_0_1024)) (View.ld x5 (Rect.unit ![0, 0, 1024] S1x1x256.size inb_S1x1x1536_S1x1x256_0_0_1024))) (View.ld x2 (Rect.unit ![0, 0, 1280] S1x3072x256.size inb_S1x3072x1536_S1x3072x256_0_0_1280)) (View.ld x4 (Rect.unit ![0, 0, 1280] S1x1x256.size inb_S1x1x1536_S1x1x256_0_0_1280)) (View.ld x3 (Rect.unit ![0, 0, 1280] S1x3072x256.size inb_S1x3072x1536_S1x3072x256_0_0_1280)) (View.ld x5 (Rect.unit ![0, 0, 1280] S1x1x256.size inb_S1x1x1536_S1x1x256_0_0_1280))) k0_pay39 j
    = (Finset.univ.fold max ⊥ fun f => mag (hB X x1 x2 x3 x4 x5 (j 0) f)) * Ideal.ofBits .f32 0x3B124925#32 := by
  unfold k0_pay40 k0_pay39 k0_pay38
  refine (Rows.rowMax_col _ _ _ _ _ _ j).trans (congrArg (· * Ideal.ofBits .f32 0x3B124925#32) ?_)
  refine amax_fold (fun f => mag (hB X x1 x2 x3 x4 x5 (j 0) f)) (fun f => mag_nonneg _) _ fun l => ?_
  pointwise [k0_pay33, k0_pay29, k0_pay26, k0_pay18]
  simp only [block0, block1, block2, block3, block4, block5]
  refine congrArg₂ max (congrArg₂ max (congrArg₂ max (congrArg₂ max (congrArg₂ max (congrArg₂ max rfl (congrArg₂ max ?_ ?_)) (congrArg₂ max ?_ ?_))
    (congrArg₂ max ?_ ?_)) (congrArg₂ max ?_ ?_)) (congrArg₂ max ?_ ?_)) (congrArg₂ max ?_ ?_)
  · exact congrArg (fun f => mag (hB X x1 x2 x3 x4 x5 (j 0) f)) (Fin.ext (by show 0 + (l : ℕ) = 128 * 0 + (l : ℕ); omega))
  · exact congrArg (fun f => mag (hB X x1 x2 x3 x4 x5 (j 0) f)) (Fin.ext (by show 0 + (128 + (l : ℕ)) = 128 * 1 + (l : ℕ); omega))
  · exact congrArg (fun f => mag (hB X x1 x2 x3 x4 x5 (j 0) f)) (Fin.ext (by show 256 + (l : ℕ) = 128 * 2 + (l : ℕ); omega))
  · exact congrArg (fun f => mag (hB X x1 x2 x3 x4 x5 (j 0) f)) (Fin.ext (by show 256 + (128 + (l : ℕ)) = 128 * 3 + (l : ℕ); omega))
  · exact congrArg (fun f => mag (hB X x1 x2 x3 x4 x5 (j 0) f)) (Fin.ext (by show 512 + (l : ℕ) = 128 * 4 + (l : ℕ); omega))
  · exact congrArg (fun f => mag (hB X x1 x2 x3 x4 x5 (j 0) f)) (Fin.ext (by show 512 + (128 + (l : ℕ)) = 128 * 5 + (l : ℕ); omega))
  · exact congrArg (fun f => mag (hB X x1 x2 x3 x4 x5 (j 0) f)) (Fin.ext (by show 768 + (l : ℕ) = 128 * 6 + (l : ℕ); omega))
  · exact congrArg (fun f => mag (hB X x1 x2 x3 x4 x5 (j 0) f)) (Fin.ext (by show 768 + (128 + (l : ℕ)) = 128 * 7 + (l : ℕ); omega))
  · exact congrArg (fun f => mag (hB X x1 x2 x3 x4 x5 (j 0) f)) (Fin.ext (by show 1024 + (l : ℕ) = 128 * 8 + (l : ℕ); omega))
  · exact congrArg (fun f => mag (hB X x1 x2 x3 x4 x5 (j 0) f)) (Fin.ext (by show 1024 + (128 + (l : ℕ)) = 128 * 9 + (l : ℕ); omega))
  · exact congrArg (fun f => mag (hB X x1 x2 x3 x4 x5 (j 0) f)) (Fin.ext (by show 1280 + (l : ℕ) = 128 * 10 + (l : ℕ); omega))
  · exact congrArg (fun f => mag (hB X x1 x2 x3 x4 x5 (j 0) f)) (Fin.ext (by show 1280 + (128 + (l : ℕ)) = 128 * 11 + (l : ℕ); omega))

/-- One rung of the ladder, row by row. -/
theorem rung (v : FVec Ideal S512x1 .f32) (b : IVec S512x1 32) (k : BitVec 32) :
    select (cmpf .oge v (bitcastToFloat .f32 (shli (addi b (broadcast S512x1 k)) (broadcast S512x1 23#32)))) (addi b (broadcast S512x1 k)) b
    = fun j => Pow2.step (v j) k (b j) := rfl

/-- The comparison ladder and the scale made of its field, row by row. -/
theorem ladder_at (a b : FVec Ideal S512x1 .f32) (j : S512x1.Idx) :
    k0_pay43 (k0_pay40 a b) (k0_pay41 a b) (k0_pay42 a b) 8#32 j = Pow2.ladderScale (k0_pay40 a b j) := by
  unfold k0_pay43 k0_pay42 k0_pay41
  generalize k0_pay40 a b = v
  dsimp only
  rw [rung v (broadcast S512x1 0#32) 128#32]
  generalize h1 : (fun j => Pow2.step (v j) 128#32 (broadcast S512x1 0#32 j)) = b1
  rw [rung v b1 64#32]
  generalize h2 : (fun j => Pow2.step (v j) 64#32 (b1 j)) = b2
  rw [rung v b2 32#32]
  generalize h3 : (fun j => Pow2.step (v j) 32#32 (b2 j)) = b3
  rw [rung v b3 16#32]
  generalize h4 : (fun j => Pow2.step (v j) 16#32 (b3 j)) = b4
  rw [rung v b4 8#32]
  generalize h5 : (fun j => Pow2.step (v j) 8#32 (b4 j)) = b5
  rw [rung v b5 4#32]
  generalize h6 : (fun j => Pow2.step (v j) 4#32 (b5 j)) = b6
  rw [rung v b6 2#32]
  generalize h7 : (fun j => Pow2.step (v j) 2#32 (b6 j)) = b7
  rw [rung v b7 1#32]
  subst h1 h2 h3 h4 h5 h6 h7
  unfold Pow2.ladderScale Pow2.field
  rfl

/-- A row's scale. -/
theorem scale_at (j : S512x1.Idx) : kernelRun0_A.sl.r_20 (F := Ideal) c arg3 harg3 arg4 harg4 arg5 harg5 arg6 harg6 arg7 harg7 arg8 harg8 arg11 x0 x1 x2 x3 x4 x5 j = scaleRow (hB (X8 x0) x1 x2 x3 x4 x5 (j 0)) := by
  unfold scaleRow
  rw [← Pow2.ladderScale_eq, ← amax_at, ← ladder_at]
  simp only [kernelRun0_A.sl.r_17, kernelRun0_A.sl.r_18, kernelRun0_A.sl.r_19, kernelRun0_A.sl.r_20, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, unpacked, View.readAt_eq_ld, harg4.read_unread, harg5.read_unread, harg6.read_unread, harg7.read_unread, harg8.read_unread, scale_eq]

/-- The codes a grid point writes. -/
theorem out6 (xt0 : TbBuf0 (F := Ideal) c tbM0_0) (xt1 : TbBuf0 (F := Ideal) c tbM0_1) (hc : Live (F := Ideal) c i xt1) (y : S512x1536.Idx) : out0_A_6 (F := Ideal) c i arg3 harg3 arg4 harg4 arg5 harg5 arg6 harg6 arg7 harg7 arg8 harg8 arg9 harg9 arg10 harg10 arg11 harg11 arg12 harg12 x0 x1 x2 x3 x4 x5 xt0 xt1 hc y = codeRow (hB (X8 x0) x1 x2 x3 x4 x5 (y 0)) (y 1) := by
  unfold out0_A_6
  rw [View.read_writes_junk_eq_canon]
  unfold kernelRun0_A
  dsimp only
  rw [View.canon_unit_zero hz]
  have e : kernelRun0_A.sl.v361 (F := Ideal) c arg3 harg3 arg4 harg4 arg5 harg5 arg6 harg6 arg7 harg7 arg8 harg8 arg11 arg12 x0 x1 x2 x3 x4 x5 = fun j => hB (X8 x0) x1 x2 x3 x4 x5 (j 0) (j 1) := by
    unfold kernelRun0_A.sl.v361
    rw [View.readCov_eq_canon']
    funext j
    rw [scratch_at]
    exact congrArg₂ (hB (X8 x0) x1 x2 x3 x4 x5) (Fin.ext (by show 0 + 1 * (j 0 : ℕ) = (j 0 : ℕ); omega)) (Fin.ext (by show 0 + 1 * (j 1 : ℕ) = (j 1 : ℕ); omega))
  rw [e]
  pointwise [k0_pay44, kernelRun0_A.sl.cst_147]
  rw [scale_at]
  unfold codeRow
  rfl

/-- The scale of the block's row `128 k + l`, at entry `(0, k, l)`. -/
def E7 : Vec Ideal S1x4x128 .f32 := fun y =>
  scaleRow (hB X x1 x2 x3 x4 x5 ⟨128 * (y 1 : ℕ) + (y 2 : ℕ), by have h1 := (y 1).isLt; have h2 := (y 2).isLt; simp at h1 h2; omega⟩)

/-- The scales a grid point writes. -/
theorem out7 (xt0 : TbBuf0 (F := Ideal) c tbM0_0) (xt1 : TbBuf0 (F := Ideal) c tbM0_1) (hc : Live (F := Ideal) c i xt1) (y : S1x4x128.Idx) : out0_A_7 (F := Ideal) c i arg3 harg3 arg4 harg4 arg5 harg5 arg6 harg6 arg7 harg7 arg8 harg8 arg9 harg9 arg10 harg10 arg11 harg11 arg12 harg12 x0 x1 x2 x3 x4 x5 xt0 xt1 hc y = E7 (X8 x0) x1 x2 x3 x4 x5 y := by
  unfold out0_A_7
  rw [View.read_writes_junk_eq_canon]
  unfold kernelRun0_A
  dsimp only
  refine View.canon_apply_of_pieces (E7 (X8 x0) x1 x2 x3 x4 x5) _ ?_ y ?_
  case refine_2 =>
    refine View.cover_of_tiledL (s := S1x4x128) _ S1x1x128.size ?_ y
    sl_kernel_rfl
  intro pc hpc
  simp only [List.mem_cons, List.not_mem_nil, or_false] at hpc
  rcases hpc with rfl | rfl | rfl | rfl <;> intro x
  · have h1 : (x 1 : ℕ) < 1 := (x 1).isLt
    pointwise [k0_pay1, kernelRun0_A.sl.r_21, k0_pay48]
    refine (scale_at c arg3 harg3 arg4 harg4 arg5 harg5 arg6 harg6 arg7 harg7 arg8 harg8 arg11 x0 x1 x2 x3 x4 x5 _).trans (congrArg (fun r => scaleRow (hB (X8 x0) x1 x2 x3 x4 x5 r)) (Fin.ext ?_))
    show 384 + (x 2 : ℕ) = 128 * (3 + 1 * (x 1 : ℕ)) + (0 + 1 * (x 2 : ℕ))
    omega
  · have h1 : (x 1 : ℕ) < 1 := (x 1).isLt
    pointwise [k0_pay47]
    refine (scale_at c arg3 harg3 arg4 harg4 arg5 harg5 arg6 harg6 arg7 harg7 arg8 harg8 arg11 x0 x1 x2 x3 x4 x5 _).trans (congrArg (fun r => scaleRow (hB (X8 x0) x1 x2 x3 x4 x5 r)) (Fin.ext ?_))
    show 256 + (x 2 : ℕ) = 128 * (2 + 1 * (x 1 : ℕ)) + (0 + 1 * (x 2 : ℕ))
    omega
  · have h1 : (x 1 : ℕ) < 1 := (x 1).isLt
    pointwise [k0_pay46]
    refine (scale_at c arg3 harg3 arg4 harg4 arg5 harg5 arg6 harg6 arg7 harg7 arg8 harg8 arg11 x0 x1 x2 x3 x4 x5 _).trans (congrArg (fun r => scaleRow (hB (X8 x0) x1 x2 x3 x4 x5 r)) (Fin.ext ?_))
    show 128 + (x 2 : ℕ) = 128 * (1 + 1 * (x 1 : ℕ)) + (0 + 1 * (x 2 : ℕ))
    omega
  · have h1 : (x 1 : ℕ) < 1 := (x 1).isLt
    pointwise [k0_pay45]
    refine (scale_at c arg3 harg3 arg4 harg4 arg5 harg5 arg6 harg6 arg7 harg7 arg8 harg8 arg11 x0 x1 x2 x3 x4 x5 _).trans (congrArg (fun r => scaleRow (hB (X8 x0) x1 x2 x3 x4 x5 r)) (Fin.ext ?_))
    show (x 2 : ℕ) = 128 * (0 + 1 * (x 1 : ℕ)) + (0 + 1 * (x 2 : ℕ))
    omega

end Cert.Proof.Routed

end
-- ==== Proof.RoutedValue.lean ====
/- THE RUN OF `routed_up`: its two results on the tiles in use are `RoutedArrays.codes` and `RoutedArrays.scales` of its
   arguments. Grid point `t` below the number of tiles in use writes rows `512 t` to `512 t + 511`; the last of them is
   written back at the end of the grid. -/
module

public import proofs.«01_k».proof.Proof.RoutedArrays
public import proofs.«01_k».proof.Proof.RoutedBlock
public import Idealize.ShloMosaic.Lib.Pipeline.Covers
public import Idealize.ShloMosaic.Lib.Pipeline.ValueKit

@[expose] public section

set_option maxRecDepth 16384

noncomputable section

namespace Cert.Proof.Routed

open Cert.KernelIdeal Cert.KernelIdeal.Gen Cert.Proof.Spec Cert.Proof.RoutedArrays Idealize.ShloMosaic Idealize.ShloMosaic.TcCoe Idealize.SL.Sem

variable (m : (ℓ : Loc nD τ sig) → Buf (Elt Ideal) ℓ) (hO : Ok m) (hT : Tab m)

theorem index0 (hT : Tab m) (t : Fin (cfgM m hO).N) : ((cfgM m hO).win 0).index t = ![min t.val (nn m - 1), 0] := by
  have h := ix_a m hT (grid0.coords t)
  rw [coords_val t] at h
  exact h
theorem index1 (hT : Tab m) (t : Fin (cfgM m hO).N) : ((cfgM m hO).win 1).index t = ![min t.val (nn m - 1), 0, 0] := by
  have h := ix_b m hT (grid0.coords t)
  rw [coords_val t] at h
  exact h
theorem index2 (t : Fin (cfgM m hO).N) : ((cfgM m hO).win 2).index t = ![(ew m (grid0.coords t 0)).toNat, 0, 0] := ix_c m (grid0.coords t)
theorem index3 (t : Fin (cfgM m hO).N) : ((cfgM m hO).win 3).index t = ![(ew m (grid0.coords t 0)).toNat, 0, 0] := ix_d m (grid0.coords t)
theorem index4 (t : Fin (cfgM m hO).N) : ((cfgM m hO).win 4).index t = ![(ew m (grid0.coords t 0)).toNat, 0, 0] := ix_e m (grid0.coords t)
theorem index5 (t : Fin (cfgM m hO).N) : ((cfgM m hO).win 5).index t = ![(ew m (grid0.coords t 0)).toNat, 0, 0] := ix_f m (grid0.coords t)

theorem embp0 (t : Fin (cfgM m hO).N) (y : S512x768.Idx) (a : Fin 2) : ((((cfgM m hO).win 0).rect t).emb y a : ℕ) = ((cfgM m hO).win 0).index t a * ((cfgM m hO).win 0).size a + (y a : ℕ) :=
  Pipeline.Window.rect_emb_val ((cfgM m hO).win 0) t y a rfl

/-- Where entry `y` of window 0's block at `t` lies in its array. -/
theorem emb0 (hT : Tab m) (t : Fin (cfgM m hO).N) (y : S512x768.Idx) (a : Fin 2) : ((((cfgM m hO).win 0).rect t).emb y a : ℕ) = (![min t.val (nn m - 1), 0] : Fin 2 → ℕ) a * (![512, 768] : Fin 2 → ℕ) a + (y a : ℕ) := by
  refine (embp0 m hO t y a).trans ?_
  rw [index0 m hO hT t]
  rfl

theorem embp1 (t : Fin (cfgM m hO).N) (y : S1x4x128.Idx) (a : Fin 3) : ((((cfgM m hO).win 1).rect t).emb y a : ℕ) = ((cfgM m hO).win 1).index t a * ((cfgM m hO).win 1).size a + (y a : ℕ) :=
  Pipeline.Window.rect_emb_val ((cfgM m hO).win 1) t y a rfl

/-- Where entry `y` of window 1's block at `t` lies in its array. -/
theorem emb1 (hT : Tab m) (t : Fin (cfgM m hO).N) (y : S1x4x128.Idx) (a : Fin 3) : ((((cfgM m hO).win 1).rect t).emb y a : ℕ) = (![min t.val (nn m - 1), 0, 0] : Fin 3 → ℕ) a * (![1, 4, 128] : Fin 3 → ℕ) a + (y a : ℕ) := by
  refine (embp1 m hO t y a).trans ?_
  rw [index1 m hO hT t]
  rfl

theorem embp2 (t : Fin (cfgM m hO).N) (y : S1x3072x1536.Idx) (a : Fin 3) : ((((cfgM m hO).win 2).rect t).emb y a : ℕ) = ((cfgM m hO).win 2).index t a * ((cfgM m hO).win 2).size a + (y a : ℕ) :=
  Pipeline.Window.rect_emb_val ((cfgM m hO).win 2) t y a rfl

/-- Where entry `y` of window 2's block at `t` lies in its array. -/
theorem emb2 (t : Fin (cfgM m hO).N) (y : S1x3072x1536.Idx) (a : Fin 3) : ((((cfgM m hO).win 2).rect t).emb y a : ℕ) = (![(ew m (grid0.coords t 0)).toNat, 0, 0] : Fin 3 → ℕ) a * (![1, 3072, 1536] : Fin 3 → ℕ) a + (y a : ℕ) := by
  refine (embp2 m hO t y a).trans ?_
  rw [index2 m hO t]
  rfl

theorem embp3 (t : Fin (cfgM m hO).N) (y : S1x3072x1536.Idx) (a : Fin 3) : ((((cfgM m hO).win 3).rect t).emb y a : ℕ) = ((cfgM m hO).win 3).index t a * ((cfgM m hO).win 3).size a + (y a : ℕ) :=
  Pipeline.Window.rect_emb_val ((cfgM m hO).win 3) t y a rfl

/-- Where entry `y` of window 3's block at `t` lies in its array. -/
theorem emb3 (t : Fin (cfgM m hO).N) (y : S1x3072x1536.Idx) (a : Fin 3) : ((((cfgM m hO).win 3).rect t).emb y a : ℕ) = (![(ew m (grid0.coords t 0)).toNat, 0, 0] : Fin 3 → ℕ) a * (![1, 3072, 1536] : Fin 3 → ℕ) a + (y a : ℕ) := by
  refine (embp3 m hO t y a).trans ?_
  rw [index3 m hO t]
  rfl

theorem embp4 (t : Fin (cfgM m hO).N) (y : S1x1x1536.Idx) (a : Fin 3) : ((((cfgM m hO).win 4).rect t).emb y a : ℕ) = ((cfgM m hO).win 4).index t a * ((cfgM m hO).win 4).size a + (y a : ℕ) :=
  Pipeline.Window.rect_emb_val ((cfgM m hO).win 4) t y a rfl

/-- Where entry `y` of window 4's block at `t` lies in its array. -/
theorem emb4 (t : Fin (cfgM m hO).N) (y : S1x1x1536.Idx) (a : Fin 3) : ((((cfgM m hO).win 4).rect t).emb y a : ℕ) = (![(ew m (grid0.coords t 0)).toNat, 0, 0] : Fin 3 → ℕ) a * (![1, 1, 1536] : Fin 3 → ℕ) a + (y a : ℕ) := by
  refine (embp4 m hO t y a).trans ?_
  rw [index4 m hO t]
  rfl

theorem embp5 (t : Fin (cfgM m hO).N) (y : S1x1x1536.Idx) (a : Fin 3) : ((((cfgM m hO).win 5).rect t).emb y a : ℕ) = ((cfgM m hO).win 5).index t a * ((cfgM m hO).win 5).size a + (y a : ℕ) :=
  Pipeline.Window.rect_emb_val ((cfgM m hO).win 5) t y a rfl

/-- Where entry `y` of window 5's block at `t` lies in its array. -/
theorem emb5 (t : Fin (cfgM m hO).N) (y : S1x1x1536.Idx) (a : Fin 3) : ((((cfgM m hO).win 5).rect t).emb y a : ℕ) = (![(ew m (grid0.coords t 0)).toNat, 0, 0] : Fin 3 → ℕ) a * (![1, 1, 1536] : Fin 3 → ℕ) a + (y a : ℕ) := by
  refine (embp5 m hO t y a).trans ?_
  rw [index5 m hO t]
  rfl

theorem embp6 (t : Fin (cfgM m hO).N) (y : S512x1536.Idx) (a : Fin 2) : ((((cfgM m hO).win 6).rect t).emb y a : ℕ) = ((cfgM m hO).win 6).index t a * ((cfgM m hO).win 6).size a + (y a : ℕ) :=
  Pipeline.Window.rect_emb_val ((cfgM m hO).win 6) t y a rfl

/-- Where entry `y` of window 6's block at `t` lies in its array. -/
theorem emb6 (hT : Tab m) (t : Fin (cfgM m hO).N) (y : S512x1536.Idx) (a : Fin 2) : ((((cfgM m hO).win 6).rect t).emb y a : ℕ) = (![min t.val (nn m - 1), 0] : Fin 2 → ℕ) a * (![512, 1536] : Fin 2 → ℕ) a + (y a : ℕ) := by
  refine (embp6 m hO t y a).trans ?_
  rw [index6 m hO hT t]
  rfl

theorem embp7 (t : Fin (cfgM m hO).N) (y : S1x4x128.Idx) (a : Fin 3) : ((((cfgM m hO).win 7).rect t).emb y a : ℕ) = ((cfgM m hO).win 7).index t a * ((cfgM m hO).win 7).size a + (y a : ℕ) :=
  Pipeline.Window.rect_emb_val ((cfgM m hO).win 7) t y a rfl

/-- Where entry `y` of window 7's block at `t` lies in its array. -/
theorem emb7 (hT : Tab m) (t : Fin (cfgM m hO).N) (y : S1x4x128.Idx) (a : Fin 3) : ((((cfgM m hO).win 7).rect t).emb y a : ℕ) = (![min t.val (nn m - 1), 0, 0] : Fin 3 → ℕ) a * (![1, 4, 128] : Fin 3 → ℕ) a + (y a : ℕ) := by
  refine (embp7 m hO t y a).trans ?_
  rw [index7 m hO hT t]
  rfl

/-- The words of point `t`'s block. -/
theorem blk0 (hT : Tab m) (c : Dev nD) (t : Fin (cfgM m hO).N) (ht : t.val < nn m) (R : Fin 212992) (r : Fin 512) (k : Fin 768) (hR : (R : ℕ) = 512 * t.val + r) :
    (show IVec S512x768 32 from iblk m hO c 0 t) (ix2 r k) = (show IVec S212992x768 32 from m ((c : Thread nD τ).loc main_arg2)) (ix2 R k) := by
  show (show IVec S212992x768 32 from m ((c : Thread nD τ).loc main_arg2)) ((((cfgM m hO).win 0).rect t).emb (ix2 r k : S512x768.Idx)) = _
  refine congrArg (show IVec S212992x768 32 from m ((c : Thread nD τ).loc main_arg2)) (funext fun a => Fin.ext ((emb0 m hO hT t (ix2 r k) a).trans ?_))
  match a with
  | ⟨0, _⟩ => show min t.val (nn m - 1) * 512 + (r : ℕ) = (R : ℕ); rw [Nat.min_eq_left (by omega)]; omega
  | ⟨1, _⟩ => show 0 * 768 + (k : ℕ) = (k : ℕ); omega

/-- The scales of point `t`'s block. -/
theorem blk1 (hT : Tab m) (c : Dev nD) (t : Fin (cfgM m hO).N) (ht : t.val < nn m) (R : Fin 212992) (r : Fin 512) (hR : (R : ℕ) = 512 * t.val + r) :
    (show FVec Ideal S1x4x128 .f32 from iblk m hO c 1 t) (ix3 0 ⟨(r : ℕ) / 128, by omega⟩ ⟨(r : ℕ) % 128, by omega⟩) = (show FVec Ideal S416x4x128 .f32 from m ((c : Thread nD τ).loc main_arg3)) (ix3 ⟨(R : ℕ) / 512, by omega⟩ ⟨(R : ℕ) / 128 % 4, by omega⟩ ⟨(R : ℕ) % 128, by omega⟩) := by
  show (show FVec Ideal S416x4x128 .f32 from m ((c : Thread nD τ).loc main_arg3)) ((((cfgM m hO).win 1).rect t).emb (ix3 0 ⟨(r : ℕ) / 128, by omega⟩ ⟨(r : ℕ) % 128, by omega⟩ : S1x4x128.Idx)) = _
  refine congrArg (show FVec Ideal S416x4x128 .f32 from m ((c : Thread nD τ).loc main_arg3)) (funext fun a => Fin.ext ((emb1 m hO hT t (ix3 0 ⟨(r : ℕ) / 128, by omega⟩ ⟨(r : ℕ) % 128, by omega⟩) a).trans ?_))
  have hr : (r : ℕ) < 512 := r.isLt
  match a with
  | ⟨0, _⟩ => show min t.val (nn m - 1) * 1 + 0 = (R : ℕ) / 512; rw [Nat.min_eq_left (by omega)]; omega
  | ⟨1, _⟩ => show 0 * 4 + (r : ℕ) / 128 = (R : ℕ) / 128 % 4; omega
  | ⟨2, _⟩ => show 0 * 128 + (r : ℕ) % 128 = (R : ℕ) % 128; omega

theorem blk2 (c : Dev nD) (t : Fin (cfgM m hO).N) (e : Fin 32) (he : (e : ℕ) = (ew m (grid0.coords t 0)).toNat) (k : Fin 3072) (f : Fin 1536) :
    (show FVec Ideal S1x3072x1536 .fp8e4m3 from iblk m hO c 2 t) (ix3 0 k f) = (show FVec Ideal S32x3072x1536 .fp8e4m3 from m ((c : Thread nD τ).loc main_arg4)) (ix3 e k f) := by
  show (show FVec Ideal S32x3072x1536 .fp8e4m3 from m ((c : Thread nD τ).loc main_arg4)) ((((cfgM m hO).win 2).rect t).emb (ix3 0 k f : S1x3072x1536.Idx)) = _
  refine congrArg (show FVec Ideal S32x3072x1536 .fp8e4m3 from m ((c : Thread nD τ).loc main_arg4)) (funext fun a => Fin.ext ((emb2 m hO t (ix3 0 k f) a).trans ?_))
  match a with
  | ⟨0, _⟩ => show (ew m (grid0.coords t 0)).toNat * 1 + 0 = (e : ℕ); omega
  | ⟨1, _⟩ => show 0 * 3072 + (k : ℕ) = (k : ℕ); omega
  | ⟨2, _⟩ => show 0 * 1536 + (f : ℕ) = (f : ℕ); omega

theorem blk3 (c : Dev nD) (t : Fin (cfgM m hO).N) (e : Fin 32) (he : (e : ℕ) = (ew m (grid0.coords t 0)).toNat) (k : Fin 3072) (f : Fin 1536) :
    (show FVec Ideal S1x3072x1536 .fp8e4m3 from iblk m hO c 3 t) (ix3 0 k f) = (show FVec Ideal S32x3072x1536 .fp8e4m3 from m ((c : Thread nD τ).loc main_arg5)) (ix3 e k f) := by
  show (show FVec Ideal S32x3072x1536 .fp8e4m3 from m ((c : Thread nD τ).loc main_arg5)) ((((cfgM m hO).win 3).rect t).emb (ix3 0 k f : S1x3072x1536.Idx)) = _
  refine congrArg (show FVec Ideal S32x3072x1536 .fp8e4m3 from m ((c : Thread nD τ).loc main_arg5)) (funext fun a => Fin.ext ((emb3 m hO t (ix3 0 k f) a).trans ?_))
  match a with
  | ⟨0, _⟩ => show (ew m (grid0.coords t 0)).toNat * 1 + 0 = (e : ℕ); omega
  | ⟨1, _⟩ => show 0 * 3072 + (k : ℕ) = (k : ℕ); omega
  | ⟨2, _⟩ => show 0 * 1536 + (f : ℕ) = (f : ℕ); omega

theorem blk4 (c : Dev nD) (t : Fin (cfgM m hO).N) (e : Fin 32) (he : (e : ℕ) = (ew m (grid0.coords t 0)).toNat) (k : Fin 1) (f : Fin 1536) :
    (show FVec Ideal S1x1x1536 .f32 from iblk m hO c 4 t) (ix3 0 k f) = (show FVec Ideal S32x1x1536 .f32 from m ((c : Thread nD τ).loc main_arg6)) (ix3 e k f) := by
  show (show FVec Ideal S32x1x1536 .f32 from m ((c : Thread nD τ).loc main_arg6)) ((((cfgM m hO).win 4).rect t).emb (ix3 0 k f : S1x1x1536.Idx)) = _
  refine congrArg (show FVec Ideal S32x1x1536 .f32 from m ((c : Thread nD τ).loc main_arg6)) (funext fun a => Fin.ext ((emb4 m hO t (ix3 0 k f) a).trans ?_))
  match a with
  | ⟨0, _⟩ => show (ew m (grid0.coords t 0)).toNat * 1 + 0 = (e : ℕ); omega
  | ⟨1, _⟩ => show 0 * 1 + (k : ℕ) = (k : ℕ); omega
  | ⟨2, _⟩ => show 0 * 1536 + (f : ℕ) = (f : ℕ); omega

theorem blk5 (c : Dev nD) (t : Fin (cfgM m hO).N) (e : Fin 32) (he : (e : ℕ) = (ew m (grid0.coords t 0)).toNat) (k : Fin 1) (f : Fin 1536) :
    (show FVec Ideal S1x1x1536 .f32 from iblk m hO c 5 t) (ix3 0 k f) = (show FVec Ideal S32x1x1536 .f32 from m ((c : Thread nD τ).loc main_arg7)) (ix3 e k f) := by
  show (show FVec Ideal S32x1x1536 .f32 from m ((c : Thread nD τ).loc main_arg7)) ((((cfgM m hO).win 5).rect t).emb (ix3 0 k f : S1x1x1536.Idx)) = _
  refine congrArg (show FVec Ideal S32x1x1536 .f32 from m ((c : Thread nD τ).loc main_arg7)) (funext fun a => Fin.ext ((emb5 m hO t (ix3 0 k f) a).trans ?_))
  match a with
  | ⟨0, _⟩ => show (ew m (grid0.coords t 0)).toNat * 1 + 0 = (e : ℕ); omega
  | ⟨1, _⟩ => show 0 * 1 + (k : ℕ) = (k : ℕ); omega
  | ⟨2, _⟩ => show 0 * 1536 + (f : ℕ) = (f : ℕ); omega

/-- Row `r` of point `t`'s block is row `512 t + r`. -/
theorem rows (hT : Tab m) (c : Dev nD) (t : Fin (cfgM m hO).N) (ht : t.val < nn m) (R : Fin 212992) (r : Fin 512) (hR : (R : ℕ) = 512 * t.val + r) :
    hB (X8 (iblk m hO c 0 t)) (iblk m hO c 1 t) (iblk m hO c 2 t) (iblk m hO c 3 t) (iblk m hO c 4 t) (iblk m hO c 5 t) r
    = hA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R := by
  obtain rfl : c = 0 := Subsingleton.elim _ _
  funext f
  have hr : (r : ℕ) < 512 := r.isLt
  have ej : (⟨(R : ℕ) / 512, by omega⟩ : Fin 416) = grid0.coords t 0 := Fin.ext ((show (R : ℕ) / 512 = t.val by omega).trans (coords_val t).symm)
  have he : ((expert (m (((0 : Dev nD) : Thread nD τ).loc main_arg0)) ⟨(R : ℕ) / 512, by omega⟩ : Fin 32) : ℕ) = (ew m (grid0.coords t 0)).toNat := by
    rw [ej]
    exact Nat.mod_eq_of_lt (hT.expert (grid0.coords t 0))
  unfold hA hE hB
  have e0 : (fun k => X8 (iblk m hO 0 0 t) (ix2 r k)) = xA (m (((0 : Dev nD) : Thread nD τ).loc main_arg2)) R := by
    funext k
    show byteVal ((show IVec S512x768 32 from iblk m hO 0 0 t) (ix2 ⟨(r : ℕ) / 32 * 32 + 8 * ((r : ℕ) % 4) + (r : ℕ) % 32 / 4, by omega⟩ ⟨(k : ℕ) % 768, by omega⟩)) ((k : ℕ) / 768) = _
    exact congrArg (fun w => byteVal w ((k : ℕ) / 768)) (blk0 m hO hT 0 t ht _ _ _ (show 32 * ((R : ℕ) / 32) + 8 * ((R : ℕ) % 4) + (R : ℕ) % 32 / 4 = 512 * t.val + ((r : ℕ) / 32 * 32 + 8 * ((r : ℕ) % 4) + (r : ℕ) % 32 / 4) by omega))
  rw [e0]
  have e1 := blk1 m hO hT 0 t ht R r hR
  have e2 : (fun k => (show FVec Ideal S1x3072x1536 .fp8e4m3 from iblk m hO 0 2 t) (ix3 0 k f)) = _ := funext fun k => blk2 m hO 0 t _ he k f
  have e3 : (fun k => (show FVec Ideal S1x3072x1536 .fp8e4m3 from iblk m hO 0 3 t) (ix3 0 k f)) = _ := funext fun k => blk3 m hO 0 t _ he k f
  have e4 := blk4 m hO 0 t _ he 0 f
  have e5 := blk5 m hO 0 t _ he 0 f
  have key : ∀ (x : Fin 3072 → EReal) (g g' u u' : Fin 3072 → EReal) (s s' a a' b b' : EReal), g = g' → u = u' → s = s' → a = a' → b = b' →
      hval x g u s a b = hval x g' u' s' a' b' := by
    intro x g g' u u' s s' a a' b b' h1 h2 h3 h4 h5
    rw [h1, h2, h3, h4, h5]
  exact key _ _ _ _ _ _ _ _ _ _ _ e2 e3 e1 e4 e5

theorem outs6 (c : Dev nD) (t : Fin (cfgM m hO).N) (hc : Live c (grid0.coords t) (tbl m 1)) (y : S512x1536.Idx) :
    (outsD m hO c t).1 y = codeRow (hB (X8 (iblk m hO c 0 t)) (iblk m hO c 1 t) (iblk m hO c 2 t) (iblk m hO c 3 t) (iblk m hO c 4 t) (iblk m hO c 5 t) (y 0)) (y 1) := by
  rw [outsD_live m hO c t hc]
  unfold outsAt0
  dsimp only
  exact out6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (tbl m 1) hc y

theorem outs7 (c : Dev nD) (t : Fin (cfgM m hO).N) (hc : Live c (grid0.coords t) (tbl m 1)) (y : S1x4x128.Idx) :
    (outsD m hO c t).2 y = E7 (X8 (iblk m hO c 0 t)) (iblk m hO c 1 t) (iblk m hO c 2 t) (iblk m hO c 3 t) (iblk m hO c 4 t) (iblk m hO c 5 t) y := by
  rw [outsD_live m hO c t hc]
  unfold outsAt0
  dsimp only
  exact out7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (tbl m 0) (tbl m 1) hc y

theorem points : (cfgM m hO).N = 416 := by
  show grid0.N = 416
  decide +kernel

/-- Two write-backs of output 6 are of different blocks. -/
theorem disjoint6 (hT : Tab m) (t t' : Fin (cfgM m hO).N) (hf : ((cfgM m hO).win 6).flush t = true) (hf' : ((cfgM m hO).win 6).flush t' = true) (hne : t ≠ t') :
    Disjoint (((cfgM m hO).win 6).blk t).view.set (((cfgM m hO).win 6).blk t').view.set := by
  refine ((cfgM m hO).win 6).disjoint_blk fun h => hne (Fin.ext ?_)
  rw [index6 m hO hT, index6 m hO hT] at h
  have h0 : min t.val (nn m - 1) = min t'.val (nn m - 1) := congrFun h 0
  have hp := hT.pos
  have p : ¬ (nn m ≤ t.val + 1 ∧ t.val + 1 < (cfgM m hO).N) := fun ⟨a, b⟩ => by rw [flush6 m hO hT t a b] at hf; exact Bool.false_ne_true hf
  have p' : ¬ (nn m ≤ t'.val + 1 ∧ t'.val + 1 < (cfgM m hO).N) := fun ⟨a, b⟩ => by rw [flush6 m hO hT t' a b] at hf'; exact Bool.false_ne_true hf'
  have l := t.isLt
  have l' := t'.isLt
  omega

/-- Two write-backs of output 7 are of different blocks. -/
theorem disjoint7 (hT : Tab m) (t t' : Fin (cfgM m hO).N) (hf : ((cfgM m hO).win 7).flush t = true) (hf' : ((cfgM m hO).win 7).flush t' = true) (hne : t ≠ t') :
    Disjoint (((cfgM m hO).win 7).blk t).view.set (((cfgM m hO).win 7).blk t').view.set := by
  refine ((cfgM m hO).win 7).disjoint_blk fun h => hne (Fin.ext ?_)
  rw [index7 m hO hT, index7 m hO hT] at h
  have h0 : min t.val (nn m - 1) = min t'.val (nn m - 1) := congrFun h 0
  have hp := hT.pos
  have p : ¬ (nn m ≤ t.val + 1 ∧ t.val + 1 < (cfgM m hO).N) := fun ⟨a, b⟩ => by rw [flush7 m hO hT t a b] at hf; exact Bool.false_ne_true hf
  have p' : ¬ (nn m ≤ t'.val + 1 ∧ t'.val + 1 < (cfgM m hO).N) := fun ⟨a, b⟩ => by rw [flush7 m hO hT t' a b] at hf'; exact Bool.false_ne_true hf'
  have l := t.isLt
  have l' := t'.isLt
  omega

/-- The codes of a row whose tile is in use. -/
theorem final6 (hT : Tab m) (c : Dev nD) (i : S212992x1536.Idx) (hi : (i 0 : ℕ) / 512 < nn m) :
    (dats m hO 0 c).arrAt 6 (cfgM m hO).N i = codes (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  have hi0 : (i 0 : ℕ) < 212992 := (i 0).isLt
  have hN := points m hO
  obtain ⟨T, hTv⟩ : ∃ T : Fin (cfgM m hO).N, T.val = (i 0 : ℕ) / 512 := ⟨⟨(i 0 : ℕ) / 512, by omega⟩, rfl⟩
  obtain ⟨t, -, hf, hix⟩ := ((cfgM m hO).win 6).exists_flush_same_index rfl T
  rw [index6 m hO hT, index6 m hO hT] at hix
  have h0 : min t.val (nn m - 1) = min T.val (nn m - 1) := congrFun hix 0
  have htc : tcap m hO t = T := Fin.ext (show min t.val (nn m - 1) = T.val by omega)
  have hc : Live c (grid0.coords T) (tbl m 1) := (live_iff m hT c _).2 (by rw [coords_val]; omega)
  have h := (dats m hO 0 c).arrAt_emb_eq_flushed 6 (disjoint6 m hO hT) t hf (ix2 ⟨(i 0 : ℕ) % 512, Nat.mod_lt _ (by norm_num)⟩ (i 1) : S512x1536.Idx)
  have hemb : (((cfgM m hO).win 6).blk t).view.emb (ix2 ⟨(i 0 : ℕ) % 512, Nat.mod_lt _ (by norm_num)⟩ (i 1) : S512x1536.Idx) = i := by
    show (((cfgM m hO).win 6).rect t).emb (ix2 ⟨(i 0 : ℕ) % 512, Nat.mod_lt _ (by norm_num)⟩ (i 1) : S512x1536.Idx) = i
    refine funext fun a => Fin.ext ((emb6 m hO hT t (ix2 ⟨(i 0 : ℕ) % 512, Nat.mod_lt _ (by norm_num)⟩ (i 1) : S512x1536.Idx) a).trans ?_)
    match a with
    | ⟨0, _⟩ => show min t.val (nn m - 1) * 512 + (i 0 : ℕ) % 512 = (i 0 : ℕ); omega
    | ⟨1, _⟩ => show 0 * 1536 + (i 1 : ℕ) = (i 1 : ℕ); omega
  rw [hemb] at h
  refine h.trans ?_
  show ((dats m hO 0 c).after 6 t) (ix2 ⟨(i 0 : ℕ) % 512, Nat.mod_lt _ (by norm_num)⟩ (i 1) : S512x1536.Idx) = _
  rw [after0_6, htc]
  refine (outs6 m hO c T hc _).trans ?_
  exact congrArg (fun g => codeRow g (i 1)) (rows m hO hT c T (by omega) (i 0) _ (show (i 0 : ℕ) = 512 * T.val + (i 0 : ℕ) % 512 by omega))

/-- The scales of a tile in use. -/
theorem final7 (hT : Tab m) (c : Dev nD) (i : S416x4x128.Idx) (hi : (i 0 : ℕ) < nn m) :
    (dats m hO 0 c).arrAt 7 (cfgM m hO).N i = scales (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  have hi0 : (i 0 : ℕ) < 416 := (i 0).isLt
  have hi1 : (i 1 : ℕ) < 4 := (i 1).isLt
  have hi2 : (i 2 : ℕ) < 128 := (i 2).isLt
  have hN := points m hO
  obtain ⟨T, hTv⟩ : ∃ T : Fin (cfgM m hO).N, T.val = (i 0 : ℕ) := ⟨⟨(i 0 : ℕ), by omega⟩, rfl⟩
  obtain ⟨t, -, hf, hix⟩ := ((cfgM m hO).win 7).exists_flush_same_index rfl T
  rw [index7 m hO hT, index7 m hO hT] at hix
  have h0 : min t.val (nn m - 1) = min T.val (nn m - 1) := congrFun hix 0
  have htc : tcap m hO t = T := Fin.ext (show min t.val (nn m - 1) = T.val by omega)
  have hc : Live c (grid0.coords T) (tbl m 1) := (live_iff m hT c _).2 (by rw [coords_val]; omega)
  have h := (dats m hO 0 c).arrAt_emb_eq_flushed 7 (disjoint7 m hO hT) t hf (ix3 0 (i 1) (i 2) : S1x4x128.Idx)
  have hemb : (((cfgM m hO).win 7).blk t).view.emb (ix3 0 (i 1) (i 2) : S1x4x128.Idx) = i := by
    show (((cfgM m hO).win 7).rect t).emb (ix3 0 (i 1) (i 2) : S1x4x128.Idx) = i
    refine funext fun a => Fin.ext ((emb7 m hO hT t (ix3 0 (i 1) (i 2) : S1x4x128.Idx) a).trans ?_)
    match a with
    | ⟨0, _⟩ => show min t.val (nn m - 1) * 1 + 0 = (i 0 : ℕ); omega
    | ⟨1, _⟩ => show 0 * 4 + (i 1 : ℕ) = (i 1 : ℕ); omega
    | ⟨2, _⟩ => show 0 * 128 + (i 2 : ℕ) = (i 2 : ℕ); omega
  rw [hemb] at h
  refine h.trans ?_
  show ((dats m hO 0 c).after 7 t) (ix3 0 (i 1) (i 2) : S1x4x128.Idx) = _
  rw [after0_7, htc]
  refine (outs7 m hO c T hc _).trans ?_
  exact congrArg scaleRow (rows m hO hT c T (by omega) _ _ (show 512 * (i 0 : ℕ) + 128 * (i 1 : ℕ) + (i 2 : ℕ) = 512 * T.val + (128 * (i 1 : ℕ) + (i 2 : ℕ)) by omega))

end Cert.Proof.Routed

end
-- ==== Proof.RoutedRef.lean ====
/- WHAT THE REFERENCE OF `routed_up` COMPUTES: its loop over the experts keeps, for each row, the gated product with the row's
   expert; its two results are the row's codes and scale. -/
module

public import proofs.«01_k».proof.Proof.RoutedArrays
public import proofs.«01_k».proof.Proof.Least
public import proofs.«01_k».proof.Proof.Gen.ReferenceIdeal.Value
public import Idealize.ShloMosaic.Lib.Pipeline.ValueKit

@[expose] public section

set_option maxRecDepth 16384

noncomputable section

namespace Cert.Proof.RoutedRef

open Cert.ReferenceIdeal Cert.ReferenceIdeal.Gen Cert.Proof.Spec Idealize.ShloMosaic Idealize.ShloMosaic.TcCoe Idealize.SL.Sem

variable (v0 : IVec S212992x3072 8) (v3 : Vec Ideal S212992x1 .f32) (v5 : IVec S212992x1 32)

/-- One trip of the loop at an index: the rows of expert `k` get their gated product, the others are kept. -/
theorem pay4_at (k : Fin k0_t1_loop.trips) (acc : FVec Ideal S212992x1536 .f32) (g : Vec Ideal S1x3072x1536 .fp8e4m3) (sg : Vec Ideal S1x1x1536 .f32)
    (u : Vec Ideal S1x3072x1536 .fp8e4m3) (su : Vec Ideal S1x1x1536 .f32) (i : S212992x1536.Idx) :
    k0_pay4 (F := Ideal) v0 v3 v5 k acc g sg u su i
      = if v5 (ix2 (i 0) 0) = BitVec.ofNat 32 k.val then
          hval (fun q => Ideal.ofBits .fp8e4m3 (v0 (ix2 (i 0) q))) (fun q => g (ix3 0 q (i 1))) (fun q => u (ix3 0 q (i 1))) (v3 (ix2 (i 0) 0)) (sg (ix3 0 0 (i 1))) (su (ix3 0 0 (i 1)))
        else acc i := by
  pointwise [k0_pay4, hval]
  have e : Scf.iv 0#32 1#32 k.val = BitVec.ofNat 32 k.val := by
    simp [Scf.iv]
  rw [e]
  unfold Scalar.select IntOp.cmpi
  by_cases h : v5 (ix2 (i 0) 0) = BitVec.ofNat 32 k.val
  · simp [h]
  · have hb : (v5 (ix2 (i 0) 0) == BitVec.ofNat 32 k.val) = false := beq_eq_false_iff_ne.2 h
    rw [hb, if_neg h]
    simp

variable (x : FVec Ideal S212992x1536 .f32)

/-- The largest absolute value of a row, over 448. -/
def amaxC : FVec Ideal S212992x1 .f32 :=
  mulf (shapeCast S212992x1 (multiReduction .maximumf [1] S212992 (absf x) 0xFF800000#32 reduces_S212992x1536_S212992 (.inl rfl) rfl) shapeCasts_S212992_S212992x1)
    (broadcast S212992x1 (Scalar.ofBits (F := Ideal) .f32 0x3B124925#32))

theorem amaxC_at (i : S212992x1.Idx) : amaxC x i = (Finset.univ.fold max ⊥ fun f : Fin 1536 => max (x (ix2 (i 0) f)) (-(x (ix2 (i 0) f)))) * Ideal.ofBits .f32 0x3B124925#32 := by
  unfold amaxC
  exact Rows.rowMax_col _ _ _ _ _ _ i

/-- The scale of a row. -/
theorem pay5_at (i : S212992x1.Idx) : k0_pay5 (F := Ideal) x i = scaleRow (fun f => x (ix2 (i 0) f)) := by
  have h5 := amaxC_at x i
  have h6 := amaxC_at x (ix2 (i 0) 0)
  refine (Least.scale_at (amaxC x) _ i).trans ?_
  unfold scaleRow Pow2.plainScale
  rw [h5]
  refine if_congr Iff.rfl rfl ((Least.least_at (amaxC x) _ _ _ _ _ _ _ _ _ i).trans (congrArg Pow2.leastPower h6))

/-- The codes of a row. -/
theorem pay1_at (i : S212992x1536.Idx) : k0_pay1 (F := Ideal) (k0_pay6 x) i = codeRow (fun f => x (ix2 (i 0) f)) (i 1) := by
  have h1 := pay5_at x (ix2 (i 0) 0)
  have e : ix2 (i 0) (i 1) = i := by funext a; match a with | ⟨0, _⟩ => rfl | ⟨1, _⟩ => rfl
  unfold k0_pay1 k0_pay6
  generalize k0_pay5 (F := Ideal) x = s at h1 ⊢
  refine (Least.clip_at x s _ _ i).trans ?_
  rw [h1]
  unfold codeRow
  exact congrArg (fun z => min _ (max _ (x z * _))) e.symm

theorem pay2_at (i : S416x4x128.Idx) : k0_pay2 (F := Ideal) (k0_pay5 x) i
    = scaleRow (fun f => x (ix2 ⟨512 * (i 0 : ℕ) + 128 * (i 1 : ℕ) + (i 2 : ℕ), by
        have h0 := (i 0).isLt; have h1 := (i 1).isLt; have h2 := (i 2).isLt; simp at h0 h1 h2; omega⟩ f)) := by
  have h1 := fun j => pay5_at x j
  generalize k0_pay5 (F := Ideal) x = s at h1 ⊢
  pointwise [k0_pay2]
  rw [h1]
  refine congrArg (fun r => scaleRow (fun f => x (ix2 r f))) (Fin.ext ?_)
  show (i 0 : ℕ) * 512 + (i 1 : ℕ) * 128 + (i 2 : ℕ) = 512 * (i 0 : ℕ) + 128 * (i 1 : ℕ) + (i 2 : ℕ)
  omega

/-- The loop's rows of expert `e`: the gated product with that expert. -/
def hR (v0 : IVec S212992x3072 8) (v3 : Vec Ideal S212992x1 .f32) (g u : Vec Ideal S32x3072x1536 .fp8e4m3) (sg su : Vec Ideal S32x1x1536 .f32) (e : Fin 32) (r : Fin 212992) (f : Fin 1536) : EReal :=
  hval (fun q => Ideal.ofBits .fp8e4m3 (v0 (ix2 r q))) (fun q => g (ix3 e q f)) (fun q => u (ix3 e q f)) (v3 (ix2 r 0)) (sg (ix3 e 0 f)) (su (ix3 e 0 f))

theorem trips : k0_t1_loop.trips = 32 := by decide +kernel

theorem word_iff (w : BitVec 32) (k : ℕ) (hk : k < 32) : w = BitVec.ofNat 32 k ↔ w.toNat = k := by
  constructor
  · rintro rfl; rw [BitVec.toNat_ofNat]; exact Nat.mod_eq_of_lt (by omega)
  · intro h; apply BitVec.eq_of_toNat_eq; rw [BitVec.toNat_ofNat, h]; exact (Nat.mod_eq_of_lt (by omega)).symm

theorem off1 : ∀ k : Fin k0_t1_loop.trips, k0_off1 k = ![k.val, 0, 0] := by decide +kernel
theorem off2 : ∀ k : Fin k0_t1_loop.trips, k0_off2 k = ![k.val, 0, 0] := by decide +kernel

theorem ld1 (g : Vec Ideal S32x3072x1536 .fp8e4m3) (k : Fin k0_t1_loop.trips) (e : Fin 32) (he : (e : ℕ) = k.val) (hb) (q : Fin 3072) (f : Fin 1536) :
    View.ld g (Rect.unit (s := S32x3072x1536) (k0_off1 k) ![1, 3072, 1536] hb) (ix3 0 q f) = g (ix3 e q f) := by
  refine congrArg g (funext fun a => Fin.ext ?_)
  have h := off1 k
  match a with
  | ⟨0, _⟩ => show k0_off1 k 0 + 1 * 0 = (e : ℕ); rw [h]; show k.val + 1 * 0 = (e : ℕ); omega
  | ⟨1, _⟩ => show k0_off1 k 1 + 1 * (q : ℕ) = (q : ℕ); rw [h]; show 0 + 1 * (q : ℕ) = (q : ℕ); omega
  | ⟨2, _⟩ => show k0_off1 k 2 + 1 * (f : ℕ) = (f : ℕ); rw [h]; show 0 + 1 * (f : ℕ) = (f : ℕ); omega

theorem ld2 (g : Vec Ideal S32x1x1536 .f32) (k : Fin k0_t1_loop.trips) (e : Fin 32) (he : (e : ℕ) = k.val) (hb) (f : Fin 1536) :
    View.ld g (Rect.unit (s := S32x1x1536) (k0_off2 k) ![1, 1, 1536] hb) (ix3 0 0 f) = g (ix3 e 0 f) := by
  refine congrArg g (funext fun a => Fin.ext ?_)
  have h := off2 k
  match a with
  | ⟨0, _⟩ => show k0_off2 k 0 + 1 * 0 = (e : ℕ); rw [h]; show k.val + 1 * 0 = (e : ℕ); omega
  | ⟨1, _⟩ => show k0_off2 k 1 + 1 * 0 = 0; rw [h]; rfl
  | ⟨2, _⟩ => show k0_off2 k 2 + 1 * (f : ℕ) = (f : ℕ); rw [h]; show 0 + 1 * (f : ℕ) = (f : ℕ); omega

section run

variable (𝒱 : Variants) (c : Dev nD) (bd : Option 𝒱.V) (arg0 : Memref sig .tc .vmem S212992x3072 .i8) (harg0 : arg0.IsWhole) (arg1 : Memref sig .tc .vmem S212992x1 .f32) (harg1 : arg1.IsWhole) (arg2 : Memref sig .tc .vmem S212992x1 .i32) (harg2 : arg2.IsWhole) (arg3 : Memref sig .tc .vmem S32x3072x1536 .fp8e4m3) (harg3 : arg3.IsWhole) (arg4 : Memref sig .tc .vmem S32x3072x1536 .fp8e4m3) (harg4 : arg4.IsWhole) (arg5 : Memref sig .tc .vmem S32x1x1536 .f32) (harg5 : arg5.IsWhole) (arg6 : Memref sig .tc .vmem S32x1x1536 .f32) (harg6 : arg6.IsWhole) (arg7 : Memref sig .tc .vmem S212992x1536 .fp8e4m3) (harg7 : arg7.IsWhole) (arg8 : Memref sig .tc .vmem S416x4x128 .f32) (harg8 : arg8.IsWhole)
  (x0 : Vec Ideal S212992x3072 .i8) (x1 : Vec Ideal S212992x1 .f32) (x2 : Vec Ideal S212992x1 .i32) (x3 : Vec Ideal S32x3072x1536 .fp8e4m3) (x4 : Vec Ideal S32x3072x1536 .fp8e4m3) (x5 : Vec Ideal S32x1x1536 .f32) (x6 : Vec Ideal S32x1x1536 .f32)

/-- The carried value before trip `n`: a row whose expert is below `n` has its gated product, the others are zero. -/
theorem loop_at (n : ℕ) (hn : n ≤ 32) (i : S212992x1536.Idx) (e : Fin 32) (he : (x2 (ix2 (i 0) 0)).toNat = (e : ℕ)) :
    st_k0_t1 (F := Ideal) 𝒱 c bd arg0 harg0 arg1 harg1 arg2 harg2 arg3 harg3 arg4 harg4 arg5 harg5 arg6 harg6 arg7 harg7 arg8 harg8 x0 x1 x2 (harg3.unread x3) (harg4.unread x4) (harg5.unread x5) (harg6.unread x6) k0_pay3 n i
      = if (e : ℕ) < n then hR x0 x1 x3 x4 x5 x6 e (i 0) (i 1) else k0_pay3 (F := Ideal) i := by
  induction n with
  | zero => rw [st_k0_t1_zero]; rw [if_neg (by omega)]
  | succ n ih =>
    have hk : n < k0_t1_loop.trips := by rw [trips]; omega
    have ih := ih (by omega)
    refine (congrFun (st_k0_t1_succ (F := Ideal) 𝒱 c bd arg0 harg0 arg1 harg1 arg2 harg2 arg3 harg3 arg4 harg4 arg5 harg5 arg6 harg6 arg7 harg7 arg8 harg8 x0 x1 x2 (harg3.unread x3) (harg4.unread x4) (harg5.unread x5) (harg6.unread x6) k0_pay3 ⟨n, hk⟩) i).trans ?_
    generalize st_k0_t1 (F := Ideal) 𝒱 c bd arg0 harg0 arg1 harg1 arg2 harg2 arg3 harg3 arg4 harg4 arg5 harg5 arg6 harg6 arg7 harg7 arg8 harg8 x0 x1 x2 (harg3.unread x3) (harg4.unread x4) (harg5.unread x5) (harg6.unread x6) k0_pay3 n = acc at ih ⊢
    unfold tripR_k0_t1 trip_k0_t1
    dsimp only
    simp only [View.readAt_eq_ld, harg3.read_unread, harg4.read_unread, harg5.read_unread, harg6.read_unread]
    refine (pay4_at x0 x1 x2 ⟨n, hk⟩ acc _ _ _ _ i).trans ?_
    by_cases h : (e : ℕ) = n
    · rw [if_pos ((word_iff _ n (by omega)).2 (he.trans h)), if_pos (by omega)]
      unfold hR
      have h1 := fun q => ld1 x3 ⟨n, hk⟩ e h (k0_off1_inb ⟨n, hk⟩) q (i 1)
      have h2 := fun q => ld1 x4 ⟨n, hk⟩ e h (k0_off1_inb ⟨n, hk⟩) q (i 1)
      have h3 := ld2 x5 ⟨n, hk⟩ e h (k0_off2_inb ⟨n, hk⟩) (i 1)
      have h4 := ld2 x6 ⟨n, hk⟩ e h (k0_off2_inb ⟨n, hk⟩) (i 1)
      have key : ∀ (x : Fin 3072 → EReal) (g g' u u' : Fin 3072 → EReal) (s a a' b b' : EReal), g = g' → u = u' → a = a' → b = b' →
          hval x g u s a b = hval x g' u' s a' b' := by
        intro x g g' u u' s a a' b b' h1 h2 h4 h5
        rw [h1, h2, h4, h5]
      exact key _ _ _ _ _ _ _ _ _ _ (funext h1) (funext h2) h3 h4
    · rw [if_neg (fun w => h (he.symm.trans ((word_iff _ n (by omega)).1 w))), ih]
      by_cases h' : (e : ℕ) < n
      · rw [if_pos h', if_pos (by omega)]
      · rw [if_neg h', if_neg (by omega)]

/-- The value the loop leaves: each row's gated product with its expert. -/
theorem value_at (r : Fin 212992) (f : Fin 1536) (e : Fin 32) (he : (x2 (ix2 r 0)).toNat = (e : ℕ)) :
    st_k0_t1 (F := Ideal) 𝒱 c bd arg0 harg0 arg1 harg1 arg2 harg2 arg3 harg3 arg4 harg4 arg5 harg5 arg6 harg6 arg7 harg7 arg8 harg8 x0 x1 x2 (harg3.unread x3) (harg4.unread x4) (harg5.unread x5) (harg6.unread x6) k0_pay3 (Scf.trips k0_t1_loop.lb k0_t1_loop.ub k0_t1_loop.st) (ix2 r f)
      = hR x0 x1 x3 x4 x5 x6 e r f := by
  have ht : Scf.trips k0_t1_loop.lb k0_t1_loop.ub k0_t1_loop.st = 32 := trips
  rw [ht]
  refine (loop_at 𝒱 c bd arg0 harg0 arg1 harg1 arg2 harg2 arg3 harg3 arg4 harg4 arg5 harg5 arg6 harg6 arg7 harg7 arg8 harg8 x0 x1 x2 x3 x4 x5 x6 32 (le_refl _) (ix2 r f) e he).trans ?_
  rw [if_pos e.isLt]
  rfl

theorem hz2 : (![0, 0] : Fin 2 → ℕ) = fun _ => 0 := by decide
theorem hz3 : (![0, 0, 0] : Fin 3 → ℕ) = fun _ => 0 := by decide

theorem out7 (y : S212992x1536.Idx) (e : Fin 32) (he : (x2 (ix2 (y 0) 0)).toNat = (e : ℕ)) :
    out0_A_7 (F := Ideal) c arg0 harg0 arg1 harg1 arg2 harg2 arg3 harg3 arg4 harg4 arg5 harg5 arg6 harg6 arg7 harg7 arg8 harg8 x0 x1 x2 x3 x4 x5 x6 y = codeRow (hR x0 x1 x3 x4 x5 x6 e (y 0)) (y 1) := by
  unfold out0_A_7
  rw [View.read_writes_junk_eq_canon]
  unfold kernelRun0_A
  dsimp only
  rw [View.canon_unit_zero hz2]
  unfold kernelRun0_A.sl.r_1
  simp only [View.readAt_eq_ld, harg0.read_unread, harg1.read_unread, harg2.read_unread]
  rw [View.ld_unit_zero hz2 _ x0, View.ld_unit_zero hz2 _ x1, View.ld_unit_zero hz2 _ x2]
  refine (pay1_at _ y).trans (congrArg (fun h => codeRow h (y 1)) (funext fun f => ?_))
  exact value_at Variants.none c none arg0 harg0 arg1 harg1 arg2 harg2 arg3 harg3 arg4 harg4 arg5 harg5 arg6 harg6 arg7 harg7 arg8 harg8 x0 x1 x2 x3 x4 x5 x6 (y 0) f e he

theorem out8 (y : S416x4x128.Idx) (r : Fin 212992) (hr : (r : ℕ) = 512 * (y 0 : ℕ) + 128 * (y 1 : ℕ) + (y 2 : ℕ)) (e : Fin 32) (he : (x2 (ix2 r 0)).toNat = (e : ℕ)) :
    out0_A_8 (F := Ideal) c arg0 harg0 arg1 harg1 arg2 harg2 arg3 harg3 arg4 harg4 arg5 harg5 arg6 harg6 arg7 harg7 arg8 harg8 x0 x1 x2 x3 x4 x5 x6 y = scaleRow (hR x0 x1 x3 x4 x5 x6 e r) := by
  unfold out0_A_8
  rw [View.read_writes_junk_eq_canon]
  unfold kernelRun0_A
  dsimp only
  rw [View.canon_unit_zero hz3]
  unfold kernelRun0_A.sl.r
  simp only [View.readAt_eq_ld, harg0.read_unread, harg1.read_unread, harg2.read_unread]
  rw [View.ld_unit_zero hz2 _ x0, View.ld_unit_zero hz2 _ x1, View.ld_unit_zero hz2 _ x2]
  refine (pay2_at _ y).trans (congrArg scaleRow (funext fun f => ?_))
  refine (value_at Variants.none c none arg0 harg0 arg1 harg1 arg2 harg2 arg3 harg3 arg4 harg4 arg5 harg5 arg6 harg6 arg7 harg7 arg8 harg8 x0 x1 x2 x3 x4 x5 x6 _ f e ?_).trans ?_
  · exact (congrArg (fun q => (x2 (ix2 q 0)).toNat) (Fin.ext hr.symm)).trans he
  · exact congrArg (fun q => hR x0 x1 x3 x4 x5 x6 e q f) (Fin.ext hr.symm)

end run

end Cert.Proof.RoutedRef

end
-- ==== Proof.RoutedRefRun.lean ====
/- THE RUN OF `routed_up`'S REFERENCE: its two results are `RoutedArrays.codes` and `RoutedArrays.scales` of its arguments. -/
module

public import proofs.«01_k».proof.Proof.RoutedRef
public import Idealize.ShloMosaic.Lib.Pipeline.ValueKit

@[expose] public section

set_option maxRecDepth 16384

noncomputable section

namespace Cert.Proof.RoutedRefRun

open Cert.Proof.RoutedRef Cert.Proof.RoutedArrays Cert.ReferenceIdeal Cert.ReferenceIdeal.Gen Cert.Proof.Spec Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0, 0]
    ∧ win0_4.index t = ![0, 0, 0] ∧ win0_5.index t = ![0, 0, 0] ∧ win0_6.index t = ![0, 0, 0] ∧ win0_7.index t = ![0, 0] ∧ win0_8.index t = ![0, 0, 0] :=
  (by decide +kernel : ∀ t : Fin grid0.N, _)

theorem blk3 (c : Dev nD) (t : Fin cfg0.N) : iblk m c 3 t = m ((c : Thread nD τ).loc main_arg4) := by blk_ext! [iblk, V, idx t]
theorem blk4 (c : Dev nD) (t : Fin cfg0.N) : iblk m c 4 t = m ((c : Thread nD τ).loc main_arg5) := by blk_ext! [iblk, V, idx t]
theorem blk5 (c : Dev nD) (t : Fin cfg0.N) : iblk m c 5 t = m ((c : Thread nD τ).loc main_arg6) := by blk_ext! [iblk, V, idx t]
theorem blk6 (c : Dev nD) (t : Fin cfg0.N) : iblk m c 6 t = m ((c : Thread nD τ).loc main_arg7) := by blk_ext! [iblk, V, idx t]

/-- The scales, read as a column. -/
theorem scale_column (v : FVec Ideal S416x4x128 .f32) (hs : S416x4x128.ShapeCasts S212992x1) (j : S212992x1.Idx) (r : Fin 212992) (hj : (j 0 : ℕ) = r) :
    shapeCast S212992x1 v hs j = v (ix3 ⟨(r : ℕ) / 512, by omega⟩ ⟨(r : ℕ) / 128 % 4, by omega⟩ ⟨(r : ℕ) % 128, by omega⟩) := by
  refine shapeCast_apply v hs j _ ?_
  rw [Shape.rowMajor_val_three, Shape.rowMajor_val_two]
  have h1 : (j 1 : ℕ) < 1 := (j 1).isLt
  have h0 : (r : ℕ) < 212992 := r.isLt
  show ((r : ℕ) / 512 * 4 + (r : ℕ) / 128 % 4) * 128 + (r : ℕ) % 128 = (j 0 : ℕ) * 1 + (j 1 : ℕ)
  omega

theorem blk1 (c : Dev nD) (t : Fin cfg0.N) (r : Fin 212992) : (show FVec Ideal S212992x1 .f32 from iblk m c 1 t) (ix2 r 0)
    = (show FVec Ideal S416x4x128 .f32 from m ((c : Thread nD τ).loc main_arg3)) (ix3 ⟨(r : ℕ) / 512, by omega⟩ ⟨(r : ℕ) / 128 % 4, by omega⟩ ⟨(r : ℕ) % 128, by omega⟩) := by
  show V m c main_v19 (((cfg0.win 1).blk t).view.emb (ix2 r 0)) = _
  entry_read
  exact scale_column _ _ _ r (by blk_simp [idx t])

/-- The words of the packed rows in the order of the rows they hold. -/
def words (x : IVec S212992x768 32) : IVec S212992x768 32 :=
  shapeCast S212992x768 (transpose S6656x8x4x768 [0, 2, 1, 3] (shapeCast S6656x4x8x768 x shapeCasts_S212992x768_S6656x4x8x768) transposes_S6656x4x8x768_S6656x8x4x768_0_2_1_3)
    shapeCasts_S6656x8x4x768_S212992x768

/-- One byte of each word. -/
def piece (x : IVec S212992x768 32) (s : BitVec 32) : IVec S212992x768 8 :=
  trunci 8 (Host.shrsi (words x) (broadcastInDim S212992x768 ![] bcast_S_S212992x768 (constantI S_ 32 s))) natLt_8_32

/-- The rows' bytes. -/
def octets (x : IVec S212992x768 32) : IVec S212992x3072 8 :=
  concatenate S212992x3072 1 [⟨S212992x768, piece x 0#32⟩, ⟨S212992x768, piece x 8#32⟩, ⟨S212992x768, piece x 16#32⟩, ⟨S212992x768, piece x 24#32⟩]
    concatenates_S212992x768_S212992x768_S212992x768_S212992x768_S212992x3072_d1

set_option maxHeartbeats 4000000 in
/-- The bytes the reference is given are those of its packed rows. -/
theorem V15 (c : Dev nD) : V m c main_v15 = octets (m ((c : Thread nD τ).loc main_arg2)) := by
  rfl

theorem words_at (x : IVec S212992x768 32) (r : Fin 212992) (q : Fin 768) : words x (ix2 r q) = x (ix2 ⟨32 * ((r : ℕ) / 32) + 8 * ((r : ℕ) % 4) + (r : ℕ) % 32 / 4, by omega⟩ q) := by
  unfold words
  pointwise []
  exact congrArg (fun z => x (ix2 z q)) (Fin.ext (show (r : ℕ) / 32 * 32 + (r : ℕ) % 4 * 8 + (r : ℕ) / 4 % 8 = 32 * ((r : ℕ) / 32) + 8 * ((r : ℕ) % 4) + (r : ℕ) % 32 / 4 by omega))

theorem byte_of : ∀ (w : BitVec 32) (j : Fin 4), (IntOp.shrsi .host w (BitVec.ofNat 32 (8 * j))).truncate 8 = w.extractLsb' (8 * j) 8 := by
  intro w j
  fin_cases j <;> apply BitVec.eq_of_getLsbD_eq <;> intro i hi <;> interval_cases i <;> simp [IntOp.shrsi, BitVec.getElem_sshiftRight]

theorem piece_at (x : IVec S212992x768 32) (j : Fin 4) (i : S212992x768.Idx) : piece x (BitVec.ofNat 32 (8 * j)) i = (words x i).extractLsb' (8 * j) 8 := by
  unfold piece
  refine Eq.trans ?_ (byte_of (words x i) j)
  rfl

theorem octets_at (x : IVec S212992x768 32) (r : Fin 212992) (q : Fin 3072) : octets x (ix2 r q) = (words x (ix2 r ⟨(q : ℕ) % 768, by omega⟩)).extractLsb' (8 * ((q : ℕ) / 768)) 8 := by
  unfold octets
  have hq : (q : ℕ) < 3072 := q.isLt
  obtain h | h | h | h : (q : ℕ) / 768 = 0 ∨ (q : ℕ) / 768 = 1 ∨ (q : ℕ) / 768 = 2 ∨ (q : ℕ) / 768 = 3 := by omega
  · refine (concatenate_apply_piece 1 [⟨S212992x768, piece x 0#32⟩, ⟨S212992x768, piece x 8#32⟩, ⟨S212992x768, piece x 16#32⟩, ⟨S212992x768, piece x 24#32⟩] concatenates_S212992x768_S212992x768_S212992x768_S212992x768_S212992x3072_d1 (ix2 r q) 0 (show 0 < 4 by decide) S212992x768 (piece x 0#32) rfl rfl 0 rfl (ix2 r ⟨(q : ℕ) % 768, by omega⟩) ?_ ?_).trans ?_
    · intro b hb
      match b with
      | ⟨0, _⟩ => rfl
      | ⟨1, _⟩ => exact absurd rfl hb
    · show 0 + (q : ℕ) % 768 = (q : ℕ)
      omega
    · rw [h]
      exact piece_at x 0 (ix2 r ⟨(q : ℕ) % 768, by omega⟩)
  · refine (concatenate_apply_piece 1 [⟨S212992x768, piece x 0#32⟩, ⟨S212992x768, piece x 8#32⟩, ⟨S212992x768, piece x 16#32⟩, ⟨S212992x768, piece x 24#32⟩] concatenates_S212992x768_S212992x768_S212992x768_S212992x768_S212992x3072_d1 (ix2 r q) 1 (show 1 < 4 by decide) S212992x768 (piece x 8#32) rfl rfl 768 rfl (ix2 r ⟨(q : ℕ) % 768, by omega⟩) ?_ ?_).trans ?_
    · intro b hb
      match b with
      | ⟨0, _⟩ => rfl
      | ⟨1, _⟩ => exact absurd rfl hb
    · show 768 + (q : ℕ) % 768 = (q : ℕ)
      omega
    · rw [h]
      exact piece_at x 1 (ix2 r ⟨(q : ℕ) % 768, by omega⟩)
  · refine (concatenate_apply_piece 1 [⟨S212992x768, piece x 0#32⟩, ⟨S212992x768, piece x 8#32⟩, ⟨S212992x768, piece x 16#32⟩, ⟨S212992x768, piece x 24#32⟩] concatenates_S212992x768_S212992x768_S212992x768_S212992x768_S212992x3072_d1 (ix2 r q) 2 (show 2 < 4 by decide) S212992x768 (piece x 16#32) rfl rfl 1536 rfl (ix2 r ⟨(q : ℕ) % 768, by omega⟩) ?_ ?_).trans ?_
    · intro b hb
      match b with
      | ⟨0, _⟩ => rfl
      | ⟨1, _⟩ => exact absurd rfl hb
    · show 1536 + (q : ℕ) % 768 = (q : ℕ)
      omega
    · rw [h]
      exact piece_at x 2 (ix2 r ⟨(q : ℕ) % 768, by omega⟩)
  · refine (concatenate_apply_piece 1 [⟨S212992x768, piece x 0#32⟩, ⟨S212992x768, piece x 8#32⟩, ⟨S212992x768, piece x 16#32⟩, ⟨S212992x768, piece x 24#32⟩] concatenates_S212992x768_S212992x768_S212992x768_S212992x768_S212992x3072_d1 (ix2 r q) 3 (show 3 < 4 by decide) S212992x768 (piece x 24#32) rfl rfl 2304 rfl (ix2 r ⟨(q : ℕ) % 768, by omega⟩) ?_ ?_).trans ?_
    · intro b hb
      match b with
      | ⟨0, _⟩ => rfl
      | ⟨1, _⟩ => exact absurd rfl hb
    · show 2304 + (q : ℕ) % 768 = (q : ℕ)
      omega
    · rw [h]
      exact piece_at x 3 (ix2 r ⟨(q : ℕ) % 768, by omega⟩)

/-- The ids, one a row. -/
theorem id_column (v : IVec S416 32) (j : S212992x1.Idx) (r : Fin 212992) (hj : (j 0 : ℕ) = r) :
    shapeCast S212992x1 (broadcastInDim S416x512 ![0, 1] bcast_S416x1_S416x512_0_1 (broadcastInDim S416x1 ![0] bcast_S416_S416x1_0 v)) shapeCasts_S416x512_S212992x1 j
      = v (ix1 ⟨(r : ℕ) / 512, by omega⟩) := by
  refine (shapeCast_apply _ _ j (ix2 ⟨(r : ℕ) / 512, by omega⟩ ⟨(r : ℕ) % 512, by omega⟩ : S416x512.Idx) ?_).trans ?_
  · rw [Shape.rowMajor_val_two, Shape.rowMajor_val_two]
    have h1 : (j 1 : ℕ) < 1 := (j 1).isLt
    show (r : ℕ) / 512 * 512 + (r : ℕ) % 512 = (j 0 : ℕ) * 1 + (j 1 : ℕ)
    omega
  · pointwise []

theorem blk2 (c : Dev nD) (t : Fin cfg0.N) (r : Fin 212992) : (show IVec S212992x1 32 from iblk m c 2 t) (ix2 r 0)
    = (show IVec S416 32 from m ((c : Thread nD τ).loc main_arg0)) (ix1 ⟨(r : ℕ) / 512, by omega⟩) := by
  show V m c main_v18 (((cfg0.win 2).blk t).view.emb (ix2 r 0)) = _
  entry_read
  exact id_column _ _ r (by blk_simp [idx t])

theorem blk0 (c : Dev nD) (t : Fin cfg0.N) (r : Fin 212992) (q : Fin 3072) : Ideal.ofBits .fp8e4m3 ((show IVec S212992x3072 8 from iblk m c 0 t) (ix2 r q))
    = xA (m ((c : Thread nD τ).loc main_arg2)) r q := by
  have e : (((cfg0.win 0).blk t).view.emb (ix2 r q) : S212992x3072.Idx) = ix2 r q := by
    funext a
    match a with
    | ⟨0, _⟩ => exact Fin.ext (by blk_simp [idx t])
    | ⟨1, _⟩ => exact Fin.ext (by blk_simp [idx t])
  have h : (show IVec S212992x3072 8 from iblk m c 0 t) (ix2 r q) = octets (m ((c : Thread nD τ).loc main_arg2)) (ix2 r q) := by
    show (show IVec S212992x3072 8 from V m c main_v15) (((cfg0.win 0).blk t).view.emb (ix2 r q)) = _
    rw [V15]
    exact congrArg (octets (m ((c : Thread nD τ).loc main_arg2))) e
  rw [h, octets_at, words_at]
  rfl

/-- The reference's gated products are those of the arguments. -/
theorem rows (c : Dev nD) (t : Fin cfg0.N) (r : Fin 212992) (e : Fin 32) (he : ((show IVec S416 32 from m ((c : Thread nD τ).loc main_arg0)) (ix1 ⟨(r : ℕ) / 512, by omega⟩)).toNat = (e : ℕ)) :
    hR (iblk m c 0 t) (iblk m c 1 t) (iblk m c 3 t) (iblk m c 4 t) (iblk m c 5 t) (iblk m c 6 t) e r = hA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r := by
  funext f
  have ee : e = expert (m ((c : Thread nD τ).loc main_arg0)) ⟨(r : ℕ) / 512, by omega⟩ := Fin.ext (by
    show (e : ℕ) = ((show IVec S416 32 from m ((c : Thread nD τ).loc main_arg0)) (ix1 ⟨(r : ℕ) / 512, by omega⟩)).toNat % 32
    rw [he]
    exact (Nat.mod_eq_of_lt e.isLt).symm)
  have e0 : (fun q => Ideal.ofBits .fp8e4m3 ((show IVec S212992x3072 8 from iblk m c 0 t) (ix2 r q))) = xA (m ((c : Thread nD τ).loc main_arg2)) r := funext fun q => blk0 m c t r q
  have e1 := blk1 m c t r
  unfold hA hE hR
  rw [blk3, blk4, blk5, blk6, ← ee]
  have key : ∀ (x x' : Fin 3072 → EReal) (g u : Fin 3072 → EReal) (s s' a b : EReal), x = x' → s = s' →
      hval x g u s a b = hval x' g u s' a b := by
    intro x x' g u s s' a b h1 h2
    rw [h1, h2]
  exact key _ _ _ _ _ _ _ _ e0 e1

theorem outs7 (hid : ∀ (c : Dev nD) (j : Fin 416), ((show IVec S416 32 from m ((c : Thread nD τ).loc main_arg0)) (ix1 j)).toNat < 32) (c : Dev nD) (t : Fin cfg0.N) (y : S212992x1536.Idx) :
    (outsAt0 m c t).1 y = codes (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) y := by
  have hr : (y 0 : ℕ) < 212992 := (y 0).isLt
  unfold outsAt0
  dsimp only
  refine (out7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) y ⟨_, hid c ⟨(y 0 : ℕ) / 512, by omega⟩⟩ ?_).trans ?_
  · exact congrArg BitVec.toNat (blk2 m c t (y 0))
  · exact congrArg (fun h => codeRow h (y 1)) (rows m c t (y 0) _ rfl)

theorem outs8 (hid : ∀ (c : Dev nD) (j : Fin 416), ((show IVec S416 32 from m ((c : Thread nD τ).loc main_arg0)) (ix1 j)).toNat < 32) (c : Dev nD) (t : Fin cfg0.N) (y : S416x4x128.Idx) :
    (outsAt0 m c t).2 y = scales (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) y := by
  have h0 : (y 0 : ℕ) < 416 := (y 0).isLt
  have h1 : (y 1 : ℕ) < 4 := (y 1).isLt
  have h2 : (y 2 : ℕ) < 128 := (y 2).isLt
  obtain ⟨r, hr⟩ : ∃ r : Fin 212992, (r : ℕ) = 512 * (y 0 : ℕ) + 128 * (y 1 : ℕ) + (y 2 : ℕ) := ⟨⟨512 * (y 0 : ℕ) + 128 * (y 1 : ℕ) + (y 2 : ℕ), by omega⟩, rfl⟩
  unfold outsAt0
  dsimp only
  refine (out8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) y r hr ⟨_, hid c ⟨(r : ℕ) / 512, by omega⟩⟩ ?_).trans ?_
  · exact congrArg BitVec.toNat (blk2 m c t r)
  · refine (congrArg scaleRow (rows m c t r _ rfl)).trans ?_
    exact congrArg (fun q => scaleRow (hA (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) q)) (Fin.ext hr)

theorem final7 (hid : ∀ (c : Dev nD) (j : Fin 416), ((show IVec S416 32 from m ((c : Thread nD τ).loc main_arg0)) (ix1 j)).toNat < 32) (c : Dev nD) : (dats m 0 c).arrAt 7 (cfgs 0).N = codes (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t _ y => ?_
  blk_simp
  rw [after0_7]
  refine (outs7 m hid c t y).trans (congrArg (codes (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  funext a
  match a with
  | ⟨0, _⟩ => exact Fin.ext (by blk_simp [idx t])
  | ⟨1, _⟩ => exact Fin.ext (by blk_simp [idx t])

theorem final8 (hid : ∀ (c : Dev nD) (j : Fin 416), ((show IVec S416 32 from m ((c : Thread nD τ).loc main_arg0)) (ix1 j)).toNat < 32) (c : Dev nD) : (dats m 0 c).arrAt 8 (cfgs 0).N = scales (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  refine (outs8 m hid c t y).trans (congrArg (scales (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ?_)
  funext a
  match a with
  | ⟨0, _⟩ => exact Fin.ext (by blk_simp [idx t])
  | ⟨1, _⟩ => exact Fin.ext (by blk_simp [idx t])
  | ⟨2, _⟩ => exact Fin.ext (by blk_simp [idx t])

end Cert.Proof.RoutedRefRun

end
-- ==== Proof.RoutedAlg.lean ====
/- THE ALGEBRAIC CLAIM OF `routed_up`: on the tiles in use, kernel and reference compute the same two arrays,
   `RoutedArrays.codes` and `RoutedArrays.scales`, of equal arguments. -/
module

public import proofs.«01_k».proof.Defs
public import proofs.«01_k».proof.Proof.RoutedClaims
public import proofs.«01_k».proof.Proof.RoutedOn
public import proofs.«01_k».proof.Proof.RoutedValue
public import proofs.«01_k».proof.Proof.RoutedRefRun

@[expose] public section

noncomputable section

namespace Cert.Proof

open Idealize.ShloMosaic Idealize.SL.Sem

instance on_facts : Cert.On_tiles_computed.Facts := RoutedPre.on_facts

theorem routed_algebraic : Cert.algebraic_KernelIdeal_ReferenceIdeal_on_tiles_computed (hKernelIdeal := Cert.KernelIdeal.Gen.facts)
    (hReferenceIdeal := Cert.ReferenceIdeal.Gen.facts) (hPre_tables_valid := RoutedClaims.pre_facts) (hOn_tiles_computed := on_facts) := by
  intro m g m' g' hpre hargs
  have hT := RoutedClaims.tab m hpre
  have hO := Routed.ok_of m hT
  refine ⟨fun c => RoutedArrays.codes (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => RoutedArrays.scales (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run (Cert.KernelIdeal.defs (F := Ideal)) _ _).mono (fun r h c => ?_) (θ_run_and (Routed.run_main m g hO hT) (Routed.unchanged m g hO hT))
    refine ⟨fun i hi => ?_, fun i hi => ?_, h.2 c⟩
    · refine (congrFun ((h.1 c).1 6) i).trans (Routed.final6 m hO hT c i ?_)
      obtain rfl : c = 0 := Subsingleton.elim _ _
      exact RoutedPre.on_rows _ _ _ _ _ _ _ _ _ hT.small i hi
    · refine (congrFun ((h.1 c).1 7) i).trans (Routed.final7 m hO hT c i ?_)
      obtain rfl : c = 0 := Subsingleton.elim _ _
      exact RoutedPre.on_tiles _ _ _ _ _ _ _ _ _ hT.small i hi
  · refine (θ_run (Cert.ReferenceIdeal.defs (F := Ideal)) _ _).mono (fun r h c => ?_) (Cert.ReferenceIdeal.Value.run_blocks (F := Ideal) m' g')
    obtain ⟨h7, h8, ha⟩ := h c
    obtain ⟨e0, e1, e2, e3, e4, e5, e6, e7⟩ := hargs c
    have hid : ∀ (c : Dev Cert.ReferenceIdeal.nD) (j : Fin 416), ((show IVec Cert.ReferenceIdeal.S416 32 from m' ((c.tc : Thread Cert.ReferenceIdeal.nD Cert.ReferenceIdeal.τ).loc Cert.ReferenceIdeal.main_arg0)) (ix1 j)).toNat < 32 := by
      intro c j
      obtain rfl : c = 0 := Subsingleton.elim _ _
      exact (congrArg (fun v : IVec Cert.ReferenceIdeal.S416 32 => (v (ix1 j)).toNat) (hargs 0).1).trans_lt (hT.expert j)
    have f7 : r.2.mem ((c.tc : Thread Cert.ReferenceIdeal.nD Cert.ReferenceIdeal.τ).loc Cert.ReferenceIdeal.main_v20_0) = RoutedArrays.codes (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
      refine h7.trans ((RoutedRefRun.final7 m' hid c).trans ?_)
      rw [e0, e2, e3, e4, e5, e6, e7]
    have f8 : r.2.mem ((c.tc : Thread Cert.ReferenceIdeal.nD Cert.ReferenceIdeal.τ).loc Cert.ReferenceIdeal.main_v20_1) = RoutedArrays.scales (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
      refine h8.trans ((RoutedRefRun.final8 m' hid c).trans ?_)
      rw [e0, e2, e3, e4, e5, e6, e7]
    exact ⟨fun i _ => congrFun f7 i, fun i _ => congrFun f8 i, ha⟩

end Cert.Proof

end
-- ==== Proof.lean ====
module

public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Defs
public import proofs.«01_k».proof.Proof.Gen.Shared
public import proofs.«01_k».proof.Proof.Gen.Shared.Skeleton
public import proofs.«01_k».proof.Proof.Gen.Shared.Launch
public import proofs.«01_k».proof.Proof.Gen.Shared.Points
public import proofs.«01_k».proof.Proof.Gen.Shared.Frame
public import proofs.«01_k».proof.Proof.Gen.SharedIdeal
public import proofs.«01_k».proof.Proof.Gen.SharedIdeal.Skeleton
public import proofs.«01_k».proof.Proof.Gen.SharedIdeal.Launch
public import proofs.«01_k».proof.Proof.Gen.SharedIdeal.Points
public import proofs.«01_k».proof.Proof.Gen.SharedIdeal.Frame
public import proofs.«01_k».proof.Proof.Gen.SharedReferenceIdeal
public import proofs.«01_k».proof.Proof.Gen.SharedReferenceIdeal.Skeleton
public import proofs.«01_k».proof.Proof.Gen.SharedReferenceIdeal.Launch
public import proofs.«01_k».proof.Proof.Gen.SharedReferenceIdeal.Points
public import proofs.«01_k».proof.Proof.Gen.SharedReferenceIdeal.Frame
public import proofs.«01_k».proof.Proof.Gen.SharedIdeal.Value
public import proofs.«01_k».proof.Proof.Gen.SharedReferenceIdeal.Value
public import proofs.«01_k».proof.Proof.SharedAlg
public import proofs.«01_k».proof.Proof.RoutedClaims
public import proofs.«01_k».proof.Proof.RoutedAlg
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Shared.Gen.facts, Cert.SharedIdeal.Gen.facts, Cert.SharedReferenceIdeal.Gen.facts, RoutedClaims.pre_facts, on_facts,
  RoutedClaims.frame_bits, RoutedClaims.frame_ideal, fun m ρ _ => Cert.ReferenceIdeal.Gen.frame m ρ,
  fun m ρ _ => Cert.ReferenceIdeal.Gen.frame m ρ,
  fun m ρ _ => Cert.Shared.Gen.frame m ρ, fun m ρ _ => Cert.SharedIdeal.Gen.frame m ρ, fun m ρ _ => Cert.SharedReferenceIdeal.Gen.frame m ρ,
  trivial, routed_algebraic, trivial, shared_algebraic⟩

end Cert.Proof

end
